-- ==== Defs.lean ====
def Pre_MlaAttn (m : (ℓ : Loc Cert.MlaAttn.nD Cert.MlaAttn.τ Cert.MlaAttn.sig) → Buf (Elt Bits) ℓ) : Prop :=
  True

def Pre_MlaAttnIdeal (m : (ℓ : Loc Cert.MlaAttnIdeal.nD Cert.MlaAttnIdeal.τ Cert.MlaAttnIdeal.sig) → Buf (Elt Ideal) ℓ) : Prop :=
  True

def Pre_MlaAttnIdeal_finite [hPre_finite : Cert.Pre_finite.Facts] (m : (ℓ : Loc Cert.MlaAttnIdeal.nD Cert.MlaAttnIdeal.τ Cert.MlaAttnIdeal.sig) → Buf (Elt Ideal) ℓ) : Prop :=
  ∀ c : Dev Cert.MlaAttnIdeal.nD,
    (Cert.Pre_finite.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2))).1 = (fun _ => 1#1)
    ∧ (Cert.Pre_finite.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2))).2.1 = (fun _ => 1#1)
    ∧ (Cert.Pre_finite.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2))).2.2 = (fun _ => 1#1)

def Pre_MlaAttnRefIdeal (m : (ℓ : Loc Cert.MlaAttnRefIdeal.nD Cert.MlaAttnRefIdeal.τ Cert.MlaAttnRefIdeal.sig) → Buf (Elt Ideal) ℓ) : Prop :=
  True

def Pre_MlaAttnRefIdeal_finite [hPre_finite : Cert.Pre_finite.Facts] (m : (ℓ : Loc Cert.MlaAttnRefIdeal.nD Cert.MlaAttnRefIdeal.τ Cert.MlaAttnRefIdeal.sig) → Buf (Elt Ideal) ℓ) : Prop :=
  ∀ c : Dev Cert.MlaAttnRefIdeal.nD,
    (Cert.Pre_finite.fn (F := Ideal) (m ((c.tc : Thread Cert.MlaAttnRefIdeal.nD Cert.MlaAttnRefIdeal.τ).loc Cert.MlaAttnRefIdeal.main_arg0)) (m ((c.tc : Thread Cert.MlaAttnRefIdeal.nD Cert.MlaAttnRefIdeal.τ).loc Cert.MlaAttnRefIdeal.main_arg1)) (m ((c.tc : Thread Cert.MlaAttnRefIdeal.nD Cert.MlaAttnRefIdeal.τ).loc Cert.MlaAttnRefIdeal.main_arg2))).1 = (fun _ => 1#1)
    ∧ (Cert.Pre_finite.fn (F := Ideal) (m ((c.tc : Thread Cert.MlaAttnRefIdeal.nD Cert.MlaAttnRefIdeal.τ).loc Cert.MlaAttnRefIdeal.main_arg0)) (m ((c.tc : Thread Cert.MlaAttnRefIdeal.nD Cert.MlaAttnRefIdeal.τ).loc Cert.MlaAttnRefIdeal.main_arg1)) (m ((c.tc : Thread Cert.MlaAttnRefIdeal.nD Cert.MlaAttnRefIdeal.τ).loc Cert.MlaAttnRefIdeal.main_arg2))).2.1 = (fun _ => 1#1)
    ∧ (Cert.Pre_finite.fn (F := Ideal) (m ((c.tc : Thread Cert.MlaAttnRefIdeal.nD Cert.MlaAttnRefIdeal.τ).loc Cert.MlaAttnRefIdeal.main_arg0)) (m ((c.tc : Thread Cert.MlaAttnRefIdeal.nD Cert.MlaAttnRefIdeal.τ).loc Cert.MlaAttnRefIdeal.main_arg1)) (m ((c.tc : Thread Cert.MlaAttnRefIdeal.nD Cert.MlaAttnRefIdeal.τ).loc Cert.MlaAttnRefIdeal.main_arg2))).2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_NaQkv (m : (ℓ : Loc Cert.NaQkv.nD Cert.NaQkv.τ Cert.NaQkv.sig) → Buf (Elt Bits) ℓ) : Prop :=
  True

def Pre_NaQkvIdeal (m : (ℓ : Loc Cert.NaQkvIdeal.nD Cert.NaQkvIdeal.τ Cert.NaQkvIdeal.sig) → Buf (Elt Ideal) ℓ) : Prop :=
  True

def Pre_NaQkvRefIdeal (m : (ℓ : Loc Cert.NaQkvRefIdeal.nD Cert.NaQkvRefIdeal.τ Cert.NaQkvRefIdeal.sig) → Buf (Elt Ideal) ℓ) : Prop :=
  True

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInRefIdeal (m : (ℓ : Loc Cert.MlaInRefIdeal.nD Cert.MlaInRefIdeal.τ Cert.MlaInRefIdeal.sig) → Buf (Elt Ideal) ℓ) : Prop :=
  True

def Pre_SguIn (m : (ℓ : Loc Cert.SguIn.nD Cert.SguIn.τ Cert.SguIn.sig) → Buf (Elt Bits) ℓ) : Prop :=
  True

def Pre_SguInIdeal (m : (ℓ : Loc Cert.SguInIdeal.nD Cert.SguInIdeal.τ Cert.SguInIdeal.sig) → Buf (Elt Ideal) ℓ) : Prop :=
  True

def Pre_SguInRefIdeal (m : (ℓ : Loc Cert.SguInRefIdeal.nD Cert.SguInRefIdeal.τ Cert.SguInRefIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutRefIdeal (m : (ℓ : Loc Cert.MixerOutRefIdeal.nD Cert.MixerOutRefIdeal.τ Cert.MixerOutRefIdeal.sig) → Buf (Elt Ideal) ℓ) : Prop :=
  True

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateRefIdeal (m : (ℓ : Loc Cert.ConvGateRefIdeal.nD Cert.ConvGateRefIdeal.τ Cert.ConvGateRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_MixerOutLast (m : (ℓ : Loc Cert.MixerOutLast.nD Cert.MixerOutLast.τ Cert.MixerOutLast.sig) → Buf (Elt Bits) ℓ) : Prop :=
  True

def Pre_MixerOutLastIdeal (m : (ℓ : Loc Cert.MixerOutLastIdeal.nD Cert.MixerOutLastIdeal.τ Cert.MixerOutLastIdeal.sig) → Buf (Elt Ideal) ℓ) : Prop :=
  True

def Pre_MixerOutLastRefIdeal (m : (ℓ : Loc Cert.MixerOutLastRefIdeal.nD Cert.MixerOutLastRefIdeal.τ Cert.MixerOutLastRefIdeal.sig) → Buf (Elt Ideal) ℓ) : Prop :=
  True

def Pre_FfnInLast (m : (ℓ : Loc Cert.FfnInLast.nD Cert.FfnInLast.τ Cert.FfnInLast.sig) → Buf (Elt Bits) ℓ) : Prop :=
  True

def Pre_FfnInLastIdeal (m : (ℓ : Loc Cert.FfnInLastIdeal.nD Cert.FfnInLastIdeal.τ Cert.FfnInLastIdeal.sig) → Buf (Elt Ideal) ℓ) : Prop :=
  True

def Pre_FfnInLastRefIdeal (m : (ℓ : Loc Cert.FfnInLastRefIdeal.nD Cert.FfnInLastRefIdeal.τ Cert.FfnInLastRefIdeal.sig) → Buf (Elt Ideal) ℓ) : Prop :=
  True

def Pre_FfnOutLast (m : (ℓ : Loc Cert.FfnOutLast.nD Cert.FfnOutLast.τ Cert.FfnOutLast.sig) → Buf (Elt Bits) ℓ) : Prop :=
  True

def Pre_FfnOutLastIdeal (m : (ℓ : Loc Cert.FfnOutLastIdeal.nD Cert.FfnOutLastIdeal.τ Cert.FfnOutLastIdeal.sig) → Buf (Elt Ideal) ℓ) : Prop :=
  True

def Pre_FfnOutLastRefIdeal (m : (ℓ : Loc Cert.FfnOutLastRefIdeal.nD Cert.FfnOutLastRefIdeal.τ Cert.FfnOutLastRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def quiescent_MlaAttn [hMlaAttn : Cert.MlaAttn.Facts] : Prop :=
  ∀ (m : (ℓ : Loc Cert.MlaAttn.nD Cert.MlaAttn.τ Cert.MlaAttn.sig) → Buf (Elt Bits) ℓ) (g : Dev Cert.MlaAttn.nD → PrngReg), Pre_MlaAttn m →
    θ_run (Cert.MlaAttn.defs (F := Bits)) (onTc (τ := Cert.MlaAttn.τ) (Cert.MlaAttn.main (F := Bits))) ⟨m, fun _ => 0, g⟩ (fun r => (∀ c : Dev Cert.MlaAttn.nD,
      r.2.mem ((c.tc : Thread Cert.MlaAttn.nD Cert.MlaAttn.τ).loc Cert.MlaAttn.main_arg0) = m ((c.tc : Thread Cert.MlaAttn.nD Cert.MlaAttn.τ).loc Cert.MlaAttn.main_arg0)
      ∧ r.2.mem ((c.tc : Thread Cert.MlaAttn.nD Cert.MlaAttn.τ).loc Cert.MlaAttn.main_arg1) = m ((c.tc : Thread Cert.MlaAttn.nD Cert.MlaAttn.τ).loc Cert.MlaAttn.main_arg1)
      ∧ r.2.mem ((c.tc : Thread Cert.MlaAttn.nD Cert.MlaAttn.τ).loc Cert.MlaAttn.main_arg2) = m ((c.tc : Thread Cert.MlaAttn.nD Cert.MlaAttn.τ).loc Cert.MlaAttn.main_arg2))
      ∧ r.2.sem = fun _ => 0)

def quiescent_MlaAttnIdeal [hMlaAttnIdeal : Cert.MlaAttnIdeal.Facts] : Prop :=
  ∀ (m : (ℓ : Loc Cert.MlaAttnIdeal.nD Cert.MlaAttnIdeal.τ Cert.MlaAttnIdeal.sig) → Buf (Elt Ideal) ℓ) (g : Dev Cert.MlaAttnIdeal.nD → PrngReg), Pre_MlaAttnIdeal m →
    θ_run (Cert.MlaAttnIdeal.defs (F := Ideal)) (onTc (τ := Cert.MlaAttnIdeal.τ) (Cert.MlaAttnIdeal.main (F := Ideal))) ⟨m, fun _ => 0, g⟩ (fun r => (∀ c : Dev Cert.MlaAttnIdeal.nD,
      r.2.mem ((c.tc : Thread Cert.MlaAttnIdeal.nD Cert.MlaAttnIdeal.τ).loc Cert.MlaAttnIdeal.main_arg0) = m ((c.tc : Thread Cert.MlaAttnIdeal.nD Cert.MlaAttnIdeal.τ).loc Cert.MlaAttnIdeal.main_arg0)
      ∧ r.2.mem ((c.tc : Thread Cert.MlaAttnIdeal.nD Cert.MlaAttnIdeal.τ).loc Cert.MlaAttnIdeal.main_arg1) = m ((c.tc : Thread Cert.MlaAttnIdeal.nD Cert.MlaAttnIdeal.τ).loc Cert.MlaAttnIdeal.main_arg1)
      ∧ r.2.mem ((c.tc : Thread Cert.MlaAttnIdeal.nD Cert.MlaAttnIdeal.τ).loc Cert.MlaAttnIdeal.main_arg2) = m ((c.tc : Thread Cert.MlaAttnIdeal.nD Cert.MlaAttnIdeal.τ).loc Cert.MlaAttnIdeal.main_arg2))
      ∧ r.2.sem = fun _ => 0)

def quiescent_MlaAttnIdeal_pre_finite [hMlaAttnIdeal : Cert.MlaAttnIdeal.Facts] [hPre_finite : Cert.Pre_finite.Facts] : Prop :=
  ∀ (m : (ℓ : Loc Cert.MlaAttnIdeal.nD Cert.MlaAttnIdeal.τ Cert.MlaAttnIdeal.sig) → Buf (Elt Ideal) ℓ) (g : Dev Cert.MlaAttnIdeal.nD → PrngReg), Pre_MlaAttnIdeal_finite m →
    θ_run (Cert.MlaAttnIdeal.defs (F := Ideal)) (onTc (τ := Cert.MlaAttnIdeal.τ) (Cert.MlaAttnIdeal.main (F := Ideal))) ⟨m, fun _ => 0, g⟩ (fun r => (∀ c : Dev Cert.MlaAttnIdeal.nD,
      r.2.mem ((c.tc : Thread Cert.MlaAttnIdeal.nD Cert.MlaAttnIdeal.τ).loc Cert.MlaAttnIdeal.main_arg0) = m ((c.tc : Thread Cert.MlaAttnIdeal.nD Cert.MlaAttnIdeal.τ).loc Cert.MlaAttnIdeal.main_arg0)
      ∧ r.2.mem ((c.tc : Thread Cert.MlaAttnIdeal.nD Cert.MlaAttnIdeal.τ).loc Cert.MlaAttnIdeal.main_arg1) = m ((c.tc : Thread Cert.MlaAttnIdeal.nD Cert.MlaAttnIdeal.τ).loc Cert.MlaAttnIdeal.main_arg1)
      ∧ r.2.mem ((c.tc : Thread Cert.MlaAttnIdeal.nD Cert.MlaAttnIdeal.τ).loc Cert.MlaAttnIdeal.main_arg2) = m ((c.tc : Thread Cert.MlaAttnIdeal.nD Cert.MlaAttnIdeal.τ).loc Cert.MlaAttnIdeal.main_arg2))
      ∧ r.2.sem = fun _ => 0)

def quiescent_MlaAttnRefIdeal [hMlaAttnRefIdeal : Cert.MlaAttnRefIdeal.Facts] : Prop :=
  ∀ (m : (ℓ : Loc Cert.MlaAttnRefIdeal.nD Cert.MlaAttnRefIdeal.τ Cert.MlaAttnRefIdeal.sig) → Buf (Elt Ideal) ℓ) (g : Dev Cert.MlaAttnRefIdeal.nD → PrngReg), Pre_MlaAttnRefIdeal m →
    θ_run (Cert.MlaAttnRefIdeal.defs (F := Ideal)) (onTc (τ := Cert.MlaAttnRefIdeal.τ) (Cert.MlaAttnRefIdeal.main (F := Ideal))) ⟨m, fun _ => 0, g⟩ (fun r => (∀ c : Dev Cert.MlaAttnRefIdeal.nD,
      r.2.mem ((c.tc : Thread Cert.MlaAttnRefIdeal.nD Cert.MlaAttnRefIdeal.τ).loc Cert.MlaAttnRefIdeal.main_arg0) = m ((c.tc : Thread Cert.MlaAttnRefIdeal.nD Cert.MlaAttnRefIdeal.τ).loc Cert.MlaAttnRefIdeal.main_arg0)
      ∧ r.2.mem ((c.tc : Thread Cert.MlaAttnRefIdeal.nD Cert.MlaAttnRefIdeal.τ).loc Cert.MlaAttnRefIdeal.main_arg1) = m ((c.tc : Thread Cert.MlaAttnRefIdeal.nD Cert.MlaAttnRefIdeal.τ).loc Cert.MlaAttnRefIdeal.main_arg1)
      ∧ r.2.mem ((c.tc : Thread Cert.MlaAttnRefIdeal.nD Cert.MlaAttnRefIdeal.τ).loc Cert.MlaAttnRefIdeal.main_arg2) = m ((c.tc : Thread Cert.MlaAttnRefIdeal.nD Cert.MlaAttnRefIdeal.τ).loc Cert.MlaAttnRefIdeal.main_arg2))
      ∧ r.2.sem = fun _ => 0)

def quiescent_MlaAttnRefIdeal_pre_finite [hMlaAttnRefIdeal : Cert.MlaAttnRefIdeal.Facts] [hPre_finite : Cert.Pre_finite.Facts] : Prop :=
  ∀ (m : (ℓ : Loc Cert.MlaAttnRefIdeal.nD Cert.MlaAttnRefIdeal.τ Cert.MlaAttnRefIdeal.sig) → Buf (Elt Ideal) ℓ) (g : Dev Cert.MlaAttnRefIdeal.nD → PrngReg), Pre_MlaAttnRefIdeal_finite m →
    θ_run (Cert.MlaAttnRefIdeal.defs (F := Ideal)) (onTc (τ := Cert.MlaAttnRefIdeal.τ) (Cert.MlaAttnRefIdeal.main (F := Ideal))) ⟨m, fun _ => 0, g⟩ (fun r => (∀ c : Dev Cert.MlaAttnRefIdeal.nD,
      r.2.mem ((c.tc : Thread Cert.MlaAttnRefIdeal.nD Cert.MlaAttnRefIdeal.τ).loc Cert.MlaAttnRefIdeal.main_arg0) = m ((c.tc : Thread Cert.MlaAttnRefIdeal.nD Cert.MlaAttnRefIdeal.τ).loc Cert.MlaAttnRefIdeal.main_arg0)
      ∧ r.2.mem ((c.tc : Thread Cert.MlaAttnRefIdeal.nD Cert.MlaAttnRefIdeal.τ).loc Cert.MlaAttnRefIdeal.main_arg1) = m ((c.tc : Thread Cert.MlaAttnRefIdeal.nD Cert.MlaAttnRefIdeal.τ).loc Cert.MlaAttnRefIdeal.main_arg1)
      ∧ r.2.mem ((c.tc : Thread Cert.MlaAttnRefIdeal.nD Cert.MlaAttnRefIdeal.τ).loc Cert.MlaAttnRefIdeal.main_arg2) = m ((c.tc : Thread Cert.MlaAttnRefIdeal.nD Cert.MlaAttnRefIdeal.τ).loc Cert.MlaAttnRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3))
      ∧ r.2.sem = fun _ => 0)

def quiescent_NaQkv [hNaQkv : Cert.NaQkv.Facts] : Prop :=
  ∀ (m : (ℓ : Loc Cert.NaQkv.nD Cert.NaQkv.τ Cert.NaQkv.sig) → Buf (Elt Bits) ℓ) (g : Dev Cert.NaQkv.nD → PrngReg), Pre_NaQkv m →
    θ_run (Cert.NaQkv.defs (F := Bits)) (onTc (τ := Cert.NaQkv.τ) (Cert.NaQkv.main (F := Bits))) ⟨m, fun _ => 0, g⟩ (fun r => (∀ c : Dev Cert.NaQkv.nD,
      r.2.mem ((c.tc : Thread Cert.NaQkv.nD Cert.NaQkv.τ).loc Cert.NaQkv.main_arg0) = m ((c.tc : Thread Cert.NaQkv.nD Cert.NaQkv.τ).loc Cert.NaQkv.main_arg0)
      ∧ r.2.mem ((c.tc : Thread Cert.NaQkv.nD Cert.NaQkv.τ).loc Cert.NaQkv.main_arg1) = m ((c.tc : Thread Cert.NaQkv.nD Cert.NaQkv.τ).loc Cert.NaQkv.main_arg1)
      ∧ r.2.mem ((c.tc : Thread Cert.NaQkv.nD Cert.NaQkv.τ).loc Cert.NaQkv.main_arg2) = m ((c.tc : Thread Cert.NaQkv.nD Cert.NaQkv.τ).loc Cert.NaQkv.main_arg2)
      ∧ r.2.mem ((c.tc : Thread Cert.NaQkv.nD Cert.NaQkv.τ).loc Cert.NaQkv.main_arg3) = m ((c.tc : Thread Cert.NaQkv.nD Cert.NaQkv.τ).loc Cert.NaQkv.main_arg3))
      ∧ r.2.sem = fun _ => 0)

def quiescent_NaQkvIdeal [hNaQkvIdeal : Cert.NaQkvIdeal.Facts] : Prop :=
  ∀ (m : (ℓ : Loc Cert.NaQkvIdeal.nD Cert.NaQkvIdeal.τ Cert.NaQkvIdeal.sig) → Buf (Elt Ideal) ℓ) (g : Dev Cert.NaQkvIdeal.nD → PrngReg), Pre_NaQkvIdeal m →
    θ_run (Cert.NaQkvIdeal.defs (F := Ideal)) (onTc (τ := Cert.NaQkvIdeal.τ) (Cert.NaQkvIdeal.main (F := Ideal))) ⟨m, fun _ => 0, g⟩ (fun r => (∀ c : Dev Cert.NaQkvIdeal.nD,
      r.2.mem ((c.tc : Thread Cert.NaQkvIdeal.nD Cert.NaQkvIdeal.τ).loc Cert.NaQkvIdeal.main_arg0) = m ((c.tc : Thread Cert.NaQkvIdeal.nD Cert.NaQkvIdeal.τ).loc Cert.NaQkvIdeal.main_arg0)
      ∧ r.2.mem ((c.tc : Thread Cert.NaQkvIdeal.nD Cert.NaQkvIdeal.τ).loc Cert.NaQkvIdeal.main_arg1) = m ((c.tc : Thread Cert.NaQkvIdeal.nD Cert.NaQkvIdeal.τ).loc Cert.NaQkvIdeal.main_arg1)
      ∧ r.2.mem ((c.tc : Thread Cert.NaQkvIdeal.nD Cert.NaQkvIdeal.τ).loc Cert.NaQkvIdeal.main_arg2) = m ((c.tc : Thread Cert.NaQkvIdeal.nD Cert.NaQkvIdeal.τ).loc Cert.NaQkvIdeal.main_arg2)
      ∧ r.2.mem ((c.tc : Thread Cert.NaQkvIdeal.nD Cert.NaQkvIdeal.τ).loc Cert.NaQkvIdeal.main_arg3) = m ((c.tc : Thread Cert.NaQkvIdeal.nD Cert.NaQkvIdeal.τ).loc Cert.NaQkvIdeal.main_arg3))
      ∧ r.2.sem = fun _ => 0)

def quiescent_NaQkvRefIdeal [hNaQkvRefIdeal : Cert.NaQkvRefIdeal.Facts] : Prop :=
  ∀ (m : (ℓ : Loc Cert.NaQkvRefIdeal.nD Cert.NaQkvRefIdeal.τ Cert.NaQkvRefIdeal.sig) → Buf (Elt Ideal) ℓ) (g : Dev Cert.NaQkvRefIdeal.nD → PrngReg), Pre_NaQkvRefIdeal m →
    θ_run (Cert.NaQkvRefIdeal.defs (F := Ideal)) (onTc (τ := Cert.NaQkvRefIdeal.τ) (Cert.NaQkvRefIdeal.main (F := Ideal))) ⟨m, fun _ => 0, g⟩ (fun r => (∀ c : Dev Cert.NaQkvRefIdeal.nD,
      r.2.mem ((c.tc : Thread Cert.NaQkvRefIdeal.nD Cert.NaQkvRefIdeal.τ).loc Cert.NaQkvRefIdeal.main_arg0) = m ((c.tc : Thread Cert.NaQkvRefIdeal.nD Cert.NaQkvRefIdeal.τ).loc Cert.NaQkvRefIdeal.main_arg0)
      ∧ r.2.mem ((c.tc : Thread Cert.NaQkvRefIdeal.nD Cert.NaQkvRefIdeal.τ).loc Cert.NaQkvRefIdeal.main_arg1) = m ((c.tc : Thread Cert.NaQkvRefIdeal.nD Cert.NaQkvRefIdeal.τ).loc Cert.NaQkvRefIdeal.main_arg1)
      ∧ r.2.mem ((c.tc : Thread Cert.NaQkvRefIdeal.nD Cert.NaQkvRefIdeal.τ).loc Cert.NaQkvRefIdeal.main_arg2) = m ((c.tc : Thread Cert.NaQkvRefIdeal.nD Cert.NaQkvRefIdeal.τ).loc Cert.NaQkvRefIdeal.main_arg2)
      ∧ r.2.mem ((c.tc : Thread Cert.NaQkvRefIdeal.nD Cert.NaQkvRefIdeal.τ).loc Cert.NaQkvRefIdeal.main_arg3) = m ((c.tc : Thread Cert.NaQkvRefIdeal.nD Cert.NaQkvRefIdeal.τ).loc Cert.NaQkvRefIdeal.main_arg3))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1)
      ∧ r.2.mem ((c.tc : Thread Cert.MlaIn.nD Cert.MlaIn.τ).loc Cert.MlaIn.main_arg2) = m ((c.tc : Thread Cert.MlaIn.nD Cert.MlaIn.τ).loc Cert.MlaIn.main_arg2)
      ∧ r.2.mem ((c.tc : Thread Cert.MlaIn.nD Cert.MlaIn.τ).loc Cert.MlaIn.main_arg3) = m ((c.tc : Thread Cert.MlaIn.nD Cert.MlaIn.τ).loc Cert.MlaIn.main_arg3))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
      ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
      ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3))
      ∧ r.2.sem = fun _ => 0)

def quiescent_MlaInRefIdeal [hMlaInRefIdeal : Cert.MlaInRefIdeal.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1)
      ∧ r.2.mem ((c.tc : Thread Cert.MlaInRefIdeal.nD Cert.MlaInRefIdeal.τ).loc Cert.MlaInRefIdeal.main_arg2) = m ((c.tc : Thread Cert.MlaInRefIdeal.nD Cert.MlaInRefIdeal.τ).loc Cert.MlaInRefIdeal.main_arg2)
      ∧ r.2.mem ((c.tc : Thread Cert.MlaInRefIdeal.nD Cert.MlaInRefIdeal.τ).loc Cert.MlaInRefIdeal.main_arg3) = m ((c.tc : Thread Cert.MlaInRefIdeal.nD Cert.MlaInRefIdeal.τ).loc Cert.MlaInRefIdeal.main_arg3))
      ∧ r.2.sem = fun _ => 0)

def quiescent_SguIn [hSguIn : Cert.SguIn.Facts] : Prop :=
  ∀ (m : (ℓ : Loc Cert.SguIn.nD Cert.SguIn.τ Cert.SguIn.sig) → Buf (Elt Bits) ℓ) (g : Dev Cert.SguIn.nD → PrngReg), Pre_SguIn m →
    θ_run (Cert.SguIn.defs (F := Bits)) (onTc (τ := Cert.SguIn.τ) (Cert.SguIn.main (F := Bits))) ⟨m, fun _ => 0, g⟩ (fun r => (∀ c : Dev Cert.SguIn.nD,
      r.2.mem ((c.tc : Thread Cert.SguIn.nD Cert.SguIn.τ).loc Cert.SguIn.main_arg0) = m ((c.tc : Thread Cert.SguIn.nD Cert.SguIn.τ).loc Cert.SguIn.main_arg0)
      ∧ r.2.mem ((c.tc : Thread Cert.SguIn.nD Cert.SguIn.τ).loc Cert.SguIn.main_arg1) = m ((c.tc : Thread Cert.SguIn.nD Cert.SguIn.τ).loc Cert.SguIn.main_arg1)
      ∧ r.2.mem ((c.tc : Thread Cert.SguIn.nD Cert.SguIn.τ).loc Cert.SguIn.main_arg2) = m ((c.tc : Thread Cert.SguIn.nD Cert.SguIn.τ).loc Cert.SguIn.main_arg2)
      ∧ r.2.mem ((c.tc : Thread Cert.SguIn.nD Cert.SguIn.τ).loc Cert.SguIn.main_arg3) = m ((c.tc : Thread Cert.SguIn.nD Cert.SguIn.τ).loc Cert.SguIn.main_arg3)
      ∧ r.2.mem ((c.tc : Thread Cert.SguIn.nD Cert.SguIn.τ).loc Cert.SguIn.main_arg4) = m ((c.tc : Thread Cert.SguIn.nD Cert.SguIn.τ).loc Cert.SguIn.main_arg4))
      ∧ r.2.sem = fun _ => 0)

def quiescent_SguInIdeal [hSguInIdeal : Cert.SguInIdeal.Facts] : Prop :=
  ∀ (m : (ℓ : Loc Cert.SguInIdeal.nD Cert.SguInIdeal.τ Cert.SguInIdeal.sig) → Buf (Elt Ideal) ℓ) (g : Dev Cert.SguInIdeal.nD → PrngReg), Pre_SguInIdeal m →
    θ_run (Cert.SguInIdeal.defs (F := Ideal)) (onTc (τ := Cert.SguInIdeal.τ) (Cert.SguInIdeal.main (F := Ideal))) ⟨m, fun _ => 0, g⟩ (fun r => (∀ c : Dev Cert.SguInIdeal.nD,
      r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
      ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
      ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2)
      ∧ r.2.mem ((c.tc : Thread Cert.SguInIdeal.nD Cert.SguInIdeal.τ).loc Cert.SguInIdeal.main_arg3) = m ((c.tc : Thread Cert.SguInIdeal.nD Cert.SguInIdeal.τ).loc Cert.SguInIdeal.main_arg3)
      ∧ r.2.mem ((c.tc : Thread Cert.SguInIdeal.nD Cert.SguInIdeal.τ).loc Cert.SguInIdeal.main_arg4) = m ((c.tc : Thread Cert.SguInIdeal.nD Cert.SguInIdeal.τ).loc Cert.SguInIdeal.main_arg4))
      ∧ r.2.sem = fun _ => 0)

def quiescent_SguInRefIdeal [hSguInRefIdeal : Cert.SguInRefIdeal.Facts] : Prop :=
  ∀ (m : (ℓ : Loc Cert.SguInRefIdeal.nD Cert.SguInRefIdeal.τ Cert.SguInRefIdeal.sig) → Buf (Elt Ideal) ℓ) (g : Dev Cert.SguInRefIdeal.nD → PrngReg), Pre_SguInRefIdeal m →
    θ_run (Cert.SguInRefIdeal.defs (F := Ideal)) (onTc (τ := Cert.SguInRefIdeal.τ) (Cert.SguInRefIdeal.main (F := Ideal))) ⟨m, fun _ => 0, g⟩ (fun r => (∀ c : Dev Cert.SguInRefIdeal.nD,
      r.2.mem ((c.tc : Thread Cert.SguInRefIdeal.nD Cert.SguInRefIdeal.τ).loc Cert.SguInRefIdeal.main_arg0) = m ((c.tc : Thread Cert.SguInRefIdeal.nD Cert.SguInRefIdeal.τ).loc Cert.SguInRefIdeal.main_arg0)
      ∧ r.2.mem ((c.tc : Thread Cert.SguInRefIdeal.nD Cert.SguInRefIdeal.τ).loc Cert.SguInRefIdeal.main_arg1) = m ((c.tc : Thread Cert.SguInRefIdeal.nD Cert.SguInRefIdeal.τ).loc Cert.SguInRefIdeal.main_arg1)
      ∧ r.2.mem ((c.tc : Thread Cert.SguInRefIdeal.nD Cert.SguInRefIdeal.τ).loc Cert.SguInRefIdeal.main_arg2) = m ((c.tc : Thread Cert.SguInRefIdeal.nD Cert.SguInRefIdeal.τ).loc Cert.SguInRefIdeal.main_arg2)
      ∧ r.2.mem ((c.tc : Thread Cert.SguInRefIdeal.nD Cert.SguInRefIdeal.τ).loc Cert.SguInRefIdeal.main_arg3) = m ((c.tc : Thread Cert.SguInRefIdeal.nD Cert.SguInRefIdeal.τ).loc Cert.SguInRefIdeal.main_arg3)
      ∧ r.2.mem ((c.tc : Thread Cert.SguInRefIdeal.nD Cert.SguInRefIdeal.τ).loc Cert.SguInRefIdeal.main_arg4) = m ((c.tc : Thread Cert.SguInRefIdeal.nD Cert.SguInRefIdeal.τ).loc Cert.SguInRefIdeal.main_arg4))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3))
      ∧ r.2.sem = fun _ => 0)

def quiescent_MixerOutRefIdeal [hMixerOutRefIdeal : Cert.MixerOutRefIdeal.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1)
      ∧ r.2.mem ((c.tc : Thread Cert.MixerOutRefIdeal.nD Cert.MixerOutRefIdeal.τ).loc Cert.MixerOutRefIdeal.main_arg2) = m ((c.tc : Thread Cert.MixerOutRefIdeal.nD Cert.MixerOutRefIdeal.τ).loc Cert.MixerOutRefIdeal.main_arg2)
      ∧ r.2.mem ((c.tc : Thread Cert.MixerOutRefIdeal.nD Cert.MixerOutRefIdeal.τ).loc Cert.MixerOutRefIdeal.main_arg3) = m ((c.tc : Thread Cert.MixerOutRefIdeal.nD Cert.MixerOutRefIdeal.τ).loc Cert.MixerOutRefIdeal.main_arg3))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1)
      ∧ r.2.mem ((c.tc : Thread Cert.ConvGate.nD Cert.ConvGate.τ).loc Cert.ConvGate.main_arg2) = m ((c.tc : Thread Cert.ConvGate.nD Cert.ConvGate.τ).loc Cert.ConvGate.main_arg2))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ r.2.sem = fun _ => 0)

def quiescent_ConvGateRefIdeal [hConvGateRefIdeal : Cert.ConvGateRefIdeal.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_MixerOutLast [hMixerOutLast : Cert.MixerOutLast.Facts] : Prop :=
  ∀ (m : (ℓ : Loc Cert.MixerOutLast.nD Cert.MixerOutLast.τ Cert.MixerOutLast.sig) → Buf (Elt Bits) ℓ) (g : Dev Cert.MixerOutLast.nD → PrngReg), Pre_MixerOutLast m →
    θ_run (Cert.MixerOutLast.defs (F := Bits)) (onTc (τ := Cert.MixerOutLast.τ) (Cert.MixerOutLast.main (F := Bits))) ⟨m, fun _ => 0, g⟩ (fun r => (∀ c : Dev Cert.MixerOutLast.nD,
      r.2.mem ((c.tc : Thread Cert.MixerOutLast.nD Cert.MixerOutLast.τ).loc Cert.MixerOutLast.main_arg0) = m ((c.tc : Thread Cert.MixerOutLast.nD Cert.MixerOutLast.τ).loc Cert.MixerOutLast.main_arg0)
      ∧ r.2.mem ((c.tc : Thread Cert.MixerOutLast.nD Cert.MixerOutLast.τ).loc Cert.MixerOutLast.main_arg1) = m ((c.tc : Thread Cert.MixerOutLast.nD Cert.MixerOutLast.τ).loc Cert.MixerOutLast.main_arg1)
      ∧ r.2.mem ((c.tc : Thread Cert.MixerOutLast.nD Cert.MixerOutLast.τ).loc Cert.MixerOutLast.main_arg2) = m ((c.tc : Thread Cert.MixerOutLast.nD Cert.MixerOutLast.τ).loc Cert.MixerOutLast.main_arg2)
      ∧ r.2.mem ((c.tc : Thread Cert.MixerOutLast.nD Cert.MixerOutLast.τ).loc Cert.MixerOutLast.main_arg3) = m ((c.tc : Thread Cert.MixerOutLast.nD Cert.MixerOutLast.τ).loc Cert.MixerOutLast.main_arg3))
      ∧ r.2.sem = fun _ => 0)

def quiescent_MixerOutLastIdeal [hMixerOutLastIdeal : Cert.MixerOutLastIdeal.Facts] : Prop :=
  ∀ (m : (ℓ : Loc Cert.MixerOutLastIdeal.nD Cert.MixerOutLastIdeal.τ Cert.MixerOutLastIdeal.sig) → Buf (Elt Ideal) ℓ) (g : Dev Cert.MixerOutLastIdeal.nD → PrngReg), Pre_MixerOutLastIdeal m →
    θ_run (Cert.MixerOutLastIdeal.defs (F := Ideal)) (onTc (τ := Cert.MixerOutLastIdeal.τ) (Cert.MixerOutLastIdeal.main (F := Ideal))) ⟨m, fun _ => 0, g⟩ (fun r => (∀ c : Dev Cert.MixerOutLastIdeal.nD,
      r.2.mem ((c.tc : Thread Cert.MixerOutLastIdeal.nD Cert.MixerOutLastIdeal.τ).loc Cert.MixerOutLastIdeal.main_arg0) = m ((c.tc : Thread Cert.MixerOutLastIdeal.nD Cert.MixerOutLastIdeal.τ).loc Cert.MixerOutLastIdeal.main_arg0)
      ∧ r.2.mem ((c.tc : Thread Cert.MixerOutLastIdeal.nD Cert.MixerOutLastIdeal.τ).loc Cert.MixerOutLastIdeal.main_arg1) = m ((c.tc : Thread Cert.MixerOutLastIdeal.nD Cert.MixerOutLastIdeal.τ).loc Cert.MixerOutLastIdeal.main_arg1)
      ∧ r.2.mem ((c.tc : Thread Cert.MixerOutLastIdeal.nD Cert.MixerOutLastIdeal.τ).loc Cert.MixerOutLastIdeal.main_arg2) = m ((c.tc : Thread Cert.MixerOutLastIdeal.nD Cert.MixerOutLastIdeal.τ).loc Cert.MixerOutLastIdeal.main_arg2)
      ∧ r.2.mem ((c.tc : Thread Cert.MixerOutLastIdeal.nD Cert.MixerOutLastIdeal.τ).loc Cert.MixerOutLastIdeal.main_arg3) = m ((c.tc : Thread Cert.MixerOutLastIdeal.nD Cert.MixerOutLastIdeal.τ).loc Cert.MixerOutLastIdeal.main_arg3))
      ∧ r.2.sem = fun _ => 0)

def quiescent_MixerOutLastRefIdeal [hMixerOutLastRefIdeal : Cert.MixerOutLastRefIdeal.Facts] : Prop :=
  ∀ (m : (ℓ : Loc Cert.MixerOutLastRefIdeal.nD Cert.MixerOutLastRefIdeal.τ Cert.MixerOutLastRefIdeal.sig) → Buf (Elt Ideal) ℓ) (g : Dev Cert.MixerOutLastRefIdeal.nD → PrngReg), Pre_MixerOutLastRefIdeal m →
    θ_run (Cert.MixerOutLastRefIdeal.defs (F := Ideal)) (onTc (τ := Cert.MixerOutLastRefIdeal.τ) (Cert.MixerOutLastRefIdeal.main (F := Ideal))) ⟨m, fun _ => 0, g⟩ (fun r => (∀ c : Dev Cert.MixerOutLastRefIdeal.nD,
      r.2.mem ((c.tc : Thread Cert.MixerOutLastRefIdeal.nD Cert.MixerOutLastRefIdeal.τ).loc Cert.MixerOutLastRefIdeal.main_arg0) = m ((c.tc : Thread Cert.MixerOutLastRefIdeal.nD Cert.MixerOutLastRefIdeal.τ).loc Cert.MixerOutLastRefIdeal.main_arg0)
      ∧ r.2.mem ((c.tc : Thread Cert.MixerOutLastRefIdeal.nD Cert.MixerOutLastRefIdeal.τ).loc Cert.MixerOutLastRefIdeal.main_arg1) = m ((c.tc : Thread Cert.MixerOutLastRefIdeal.nD Cert.MixerOutLastRefIdeal.τ).loc Cert.MixerOutLastRefIdeal.main_arg1)
      ∧ r.2.mem ((c.tc : Thread Cert.MixerOutLastRefIdeal.nD Cert.MixerOutLastRefIdeal.τ).loc Cert.MixerOutLastRefIdeal.main_arg2) = m ((c.tc : Thread Cert.MixerOutLastRefIdeal.nD Cert.MixerOutLastRefIdeal.τ).loc Cert.MixerOutLastRefIdeal.main_arg2)
      ∧ r.2.mem ((c.tc : Thread Cert.MixerOutLastRefIdeal.nD Cert.MixerOutLastRefIdeal.τ).loc Cert.MixerOutLastRefIdeal.main_arg3) = m ((c.tc : Thread Cert.MixerOutLastRefIdeal.nD Cert.MixerOutLastRefIdeal.τ).loc Cert.MixerOutLastRefIdeal.main_arg3))
      ∧ r.2.sem = fun _ => 0)

def quiescent_FfnInLast [hFfnInLast : Cert.FfnInLast.Facts] : Prop :=
  ∀ (m : (ℓ : Loc Cert.FfnInLast.nD Cert.FfnInLast.τ Cert.FfnInLast.sig) → Buf (Elt Bits) ℓ) (g : Dev Cert.FfnInLast.nD → PrngReg), Pre_FfnInLast m →
    θ_run (Cert.FfnInLast.defs (F := Bits)) (onTc (τ := Cert.FfnInLast.τ) (Cert.FfnInLast.main (F := Bits))) ⟨m, fun _ => 0, g⟩ (fun r => (∀ c : Dev Cert.FfnInLast.nD,
      r.2.mem ((c.tc : Thread Cert.FfnInLast.nD Cert.FfnInLast.τ).loc Cert.FfnInLast.main_arg0) = m ((c.tc : Thread Cert.FfnInLast.nD Cert.FfnInLast.τ).loc Cert.FfnInLast.main_arg0)
      ∧ r.2.mem ((c.tc : Thread Cert.FfnInLast.nD Cert.FfnInLast.τ).loc Cert.FfnInLast.main_arg1) = m ((c.tc : Thread Cert.FfnInLast.nD Cert.FfnInLast.τ).loc Cert.FfnInLast.main_arg1)
      ∧ r.2.mem ((c.tc : Thread Cert.FfnInLast.nD Cert.FfnInLast.τ).loc Cert.FfnInLast.main_arg2) = m ((c.tc : Thread Cert.FfnInLast.nD Cert.FfnInLast.τ).loc Cert.FfnInLast.main_arg2)
      ∧ r.2.mem ((c.tc : Thread Cert.FfnInLast.nD Cert.FfnInLast.τ).loc Cert.FfnInLast.main_arg3) = m ((c.tc : Thread Cert.FfnInLast.nD Cert.FfnInLast.τ).loc Cert.FfnInLast.main_arg3))
      ∧ r.2.sem = fun _ => 0)

def quiescent_FfnInLastIdeal [hFfnInLastIdeal : Cert.FfnInLastIdeal.Facts] : Prop :=
  ∀ (m : (ℓ : Loc Cert.FfnInLastIdeal.nD Cert.FfnInLastIdeal.τ Cert.FfnInLastIdeal.sig) → Buf (Elt Ideal) ℓ) (g : Dev Cert.FfnInLastIdeal.nD → PrngReg), Pre_FfnInLastIdeal m →
    θ_run (Cert.FfnInLastIdeal.defs (F := Ideal)) (onTc (τ := Cert.FfnInLastIdeal.τ) (Cert.FfnInLastIdeal.main (F := Ideal))) ⟨m, fun _ => 0, g⟩ (fun r => (∀ c : Dev Cert.FfnInLastIdeal.nD,
      r.2.mem ((c.tc : Thread Cert.FfnInLastIdeal.nD Cert.FfnInLastIdeal.τ).loc Cert.FfnInLastIdeal.main_arg0) = m ((c.tc : Thread Cert.FfnInLastIdeal.nD Cert.FfnInLastIdeal.τ).loc Cert.FfnInLastIdeal.main_arg0)
      ∧ r.2.mem ((c.tc : Thread Cert.FfnInLastIdeal.nD Cert.FfnInLastIdeal.τ).loc Cert.FfnInLastIdeal.main_arg1) = m ((c.tc : Thread Cert.FfnInLastIdeal.nD Cert.FfnInLastIdeal.τ).loc Cert.FfnInLastIdeal.main_arg1)
      ∧ r.2.mem ((c.tc : Thread Cert.FfnInLastIdeal.nD Cert.FfnInLastIdeal.τ).loc Cert.FfnInLastIdeal.main_arg2) = m ((c.tc : Thread Cert.FfnInLastIdeal.nD Cert.FfnInLastIdeal.τ).loc Cert.FfnInLastIdeal.main_arg2)
      ∧ r.2.mem ((c.tc : Thread Cert.FfnInLastIdeal.nD Cert.FfnInLastIdeal.τ).loc Cert.FfnInLastIdeal.main_arg3) = m ((c.tc : Thread Cert.FfnInLastIdeal.nD Cert.FfnInLastIdeal.τ).loc Cert.FfnInLastIdeal.main_arg3))
      ∧ r.2.sem = fun _ => 0)

def quiescent_FfnInLastRefIdeal [hFfnInLastRefIdeal : Cert.FfnInLastRefIdeal.Facts] : Prop :=
  ∀ (m : (ℓ : Loc Cert.FfnInLastRefIdeal.nD Cert.FfnInLastRefIdeal.τ Cert.FfnInLastRefIdeal.sig) → Buf (Elt Ideal) ℓ) (g : Dev Cert.FfnInLastRefIdeal.nD → PrngReg), Pre_FfnInLastRefIdeal m →
    θ_run (Cert.FfnInLastRefIdeal.defs (F := Ideal)) (onTc (τ := Cert.FfnInLastRefIdeal.τ) (Cert.FfnInLastRefIdeal.main (F := Ideal))) ⟨m, fun _ => 0, g⟩ (fun r => (∀ c : Dev Cert.FfnInLastRefIdeal.nD,
      r.2.mem ((c.tc : Thread Cert.FfnInLastRefIdeal.nD Cert.FfnInLastRefIdeal.τ).loc Cert.FfnInLastRefIdeal.main_arg0) = m ((c.tc : Thread Cert.FfnInLastRefIdeal.nD Cert.FfnInLastRefIdeal.τ).loc Cert.FfnInLastRefIdeal.main_arg0)
      ∧ r.2.mem ((c.tc : Thread Cert.FfnInLastRefIdeal.nD Cert.FfnInLastRefIdeal.τ).loc Cert.FfnInLastRefIdeal.main_arg1) = m ((c.tc : Thread Cert.FfnInLastRefIdeal.nD Cert.FfnInLastRefIdeal.τ).loc Cert.FfnInLastRefIdeal.main_arg1)
      ∧ r.2.mem ((c.tc : Thread Cert.FfnInLastRefIdeal.nD Cert.FfnInLastRefIdeal.τ).loc Cert.FfnInLastRefIdeal.main_arg2) = m ((c.tc : Thread Cert.FfnInLastRefIdeal.nD Cert.FfnInLastRefIdeal.τ).loc Cert.FfnInLastRefIdeal.main_arg2)
      ∧ r.2.mem ((c.tc : Thread Cert.FfnInLastRefIdeal.nD Cert.FfnInLastRefIdeal.τ).loc Cert.FfnInLastRefIdeal.main_arg3) = m ((c.tc : Thread Cert.FfnInLastRefIdeal.nD Cert.FfnInLastRefIdeal.τ).loc Cert.FfnInLastRefIdeal.main_arg3))
      ∧ r.2.sem = fun _ => 0)

def quiescent_FfnOutLast [hFfnOutLast : Cert.FfnOutLast.Facts] : Prop :=
  ∀ (m : (ℓ : Loc Cert.FfnOutLast.nD Cert.FfnOutLast.τ Cert.FfnOutLast.sig) → Buf (Elt Bits) ℓ) (g : Dev Cert.FfnOutLast.nD → PrngReg), Pre_FfnOutLast m →
    θ_run (Cert.FfnOutLast.defs (F := Bits)) (onTc (τ := Cert.FfnOutLast.τ) (Cert.FfnOutLast.main (F := Bits))) ⟨m, fun _ => 0, g⟩ (fun r => (∀ c : Dev Cert.FfnOutLast.nD,
      r.2.mem ((c.tc : Thread Cert.FfnOutLast.nD Cert.FfnOutLast.τ).loc Cert.FfnOutLast.main_arg0) = m ((c.tc : Thread Cert.FfnOutLast.nD Cert.FfnOutLast.τ).loc Cert.FfnOutLast.main_arg0)
      ∧ r.2.mem ((c.tc : Thread Cert.FfnOutLast.nD Cert.FfnOutLast.τ).loc Cert.FfnOutLast.main_arg1) = m ((c.tc : Thread Cert.FfnOutLast.nD Cert.FfnOutLast.τ).loc Cert.FfnOutLast.main_arg1)
      ∧ r.2.mem ((c.tc : Thread Cert.FfnOutLast.nD Cert.FfnOutLast.τ).loc Cert.FfnOutLast.main_arg2) = m ((c.tc : Thread Cert.FfnOutLast.nD Cert.FfnOutLast.τ).loc Cert.FfnOutLast.main_arg2)
      ∧ r.2.mem ((c.tc : Thread Cert.FfnOutLast.nD Cert.FfnOutLast.τ).loc Cert.FfnOutLast.main_arg3) = m ((c.tc : Thread Cert.FfnOutLast.nD Cert.FfnOutLast.τ).loc Cert.FfnOutLast.main_arg3))
      ∧ r.2.sem = fun _ => 0)

def quiescent_FfnOutLastIdeal [hFfnOutLastIdeal : Cert.FfnOutLastIdeal.Facts] : Prop :=
  ∀ (m : (ℓ : Loc Cert.FfnOutLastIdeal.nD Cert.FfnOutLastIdeal.τ Cert.FfnOutLastIdeal.sig) → Buf (Elt Ideal) ℓ) (g : Dev Cert.FfnOutLastIdeal.nD → PrngReg), Pre_FfnOutLastIdeal m →
    θ_run (Cert.FfnOutLastIdeal.defs (F := Ideal)) (onTc (τ := Cert.FfnOutLastIdeal.τ) (Cert.FfnOutLastIdeal.main (F := Ideal))) ⟨m, fun _ => 0, g⟩ (fun r => (∀ c : Dev Cert.FfnOutLastIdeal.nD,
      r.2.mem ((c.tc : Thread Cert.FfnOutLastIdeal.nD Cert.FfnOutLastIdeal.τ).loc Cert.FfnOutLastIdeal.main_arg0) = m ((c.tc : Thread Cert.FfnOutLastIdeal.nD Cert.FfnOutLastIdeal.τ).loc Cert.FfnOutLastIdeal.main_arg0)
      ∧ r.2.mem ((c.tc : Thread Cert.FfnOutLastIdeal.nD Cert.FfnOutLastIdeal.τ).loc Cert.FfnOutLastIdeal.main_arg1) = m ((c.tc : Thread Cert.FfnOutLastIdeal.nD Cert.FfnOutLastIdeal.τ).loc Cert.FfnOutLastIdeal.main_arg1)
      ∧ r.2.mem ((c.tc : Thread Cert.FfnOutLastIdeal.nD Cert.FfnOutLastIdeal.τ).loc Cert.FfnOutLastIdeal.main_arg2) = m ((c.tc : Thread Cert.FfnOutLastIdeal.nD Cert.FfnOutLastIdeal.τ).loc Cert.FfnOutLastIdeal.main_arg2)
      ∧ r.2.mem ((c.tc : Thread Cert.FfnOutLastIdeal.nD Cert.FfnOutLastIdeal.τ).loc Cert.FfnOutLastIdeal.main_arg3) = m ((c.tc : Thread Cert.FfnOutLastIdeal.nD Cert.FfnOutLastIdeal.τ).loc Cert.FfnOutLastIdeal.main_arg3))
      ∧ r.2.sem = fun _ => 0)

def quiescent_FfnOutLastRefIdeal [hFfnOutLastRefIdeal : Cert.FfnOutLastRefIdeal.Facts] : Prop :=
  ∀ (m : (ℓ : Loc Cert.FfnOutLastRefIdeal.nD Cert.FfnOutLastRefIdeal.τ Cert.FfnOutLastRefIdeal.sig) → Buf (Elt Ideal) ℓ) (g : Dev Cert.FfnOutLastRefIdeal.nD → PrngReg), Pre_FfnOutLastRefIdeal m →
    θ_run (Cert.FfnOutLastRefIdeal.defs (F := Ideal)) (onTc (τ := Cert.FfnOutLastRefIdeal.τ) (Cert.FfnOutLastRefIdeal.main (F := Ideal))) ⟨m, fun _ => 0, g⟩ (fun r => (∀ c : Dev Cert.FfnOutLastRefIdeal.nD,
      r.2.mem ((c.tc : Thread Cert.FfnOutLastRefIdeal.nD Cert.FfnOutLastRefIdeal.τ).loc Cert.FfnOutLastRefIdeal.main_arg0) = m ((c.tc : Thread Cert.FfnOutLastRefIdeal.nD Cert.FfnOutLastRefIdeal.τ).loc Cert.FfnOutLastRefIdeal.main_arg0)
      ∧ r.2.mem ((c.tc : Thread Cert.FfnOutLastRefIdeal.nD Cert.FfnOutLastRefIdeal.τ).loc Cert.FfnOutLastRefIdeal.main_arg1) = m ((c.tc : Thread Cert.FfnOutLastRefIdeal.nD Cert.FfnOutLastRefIdeal.τ).loc Cert.FfnOutLastRefIdeal.main_arg1)
      ∧ r.2.mem ((c.tc : Thread Cert.FfnOutLastRefIdeal.nD Cert.FfnOutLastRefIdeal.τ).loc Cert.FfnOutLastRefIdeal.main_arg2) = m ((c.tc : Thread Cert.FfnOutLastRefIdeal.nD Cert.FfnOutLastRefIdeal.τ).loc Cert.FfnOutLastRefIdeal.main_arg2)
      ∧ r.2.mem ((c.tc : Thread Cert.FfnOutLastRefIdeal.nD Cert.FfnOutLastRefIdeal.τ).loc Cert.FfnOutLastRefIdeal.main_arg3) = m ((c.tc : Thread Cert.FfnOutLastRefIdeal.nD Cert.FfnOutLastRefIdeal.τ).loc Cert.FfnOutLastRefIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def preserves_MlaAttn_MlaAttnIdeal : Prop :=
  True

def algebraic_MlaAttnIdeal_MlaAttnRefIdeal_pre_finite [hMlaAttnIdeal : Cert.MlaAttnIdeal.Facts] [hMlaAttnRefIdeal : Cert.MlaAttnRefIdeal.Facts] [hPre_finite : Cert.Pre_finite.Facts] : Prop :=
  ∀ (m : (ℓ : Loc Cert.MlaAttnIdeal.nD Cert.MlaAttnIdeal.τ Cert.MlaAttnIdeal.sig) → Buf (Elt Ideal) ℓ) (g : Dev Cert.MlaAttnIdeal.nD → PrngReg)
    (m' : (ℓ : Loc Cert.MlaAttnRefIdeal.nD Cert.MlaAttnRefIdeal.τ Cert.MlaAttnRefIdeal.sig) → Buf (Elt Ideal) ℓ) (g' : Dev Cert.MlaAttnRefIdeal.nD → PrngReg), Pre_MlaAttnIdeal_finite m →
    (∀ c : Dev Cert.MlaAttnIdeal.nD,
      m' ((c.tc : Thread Cert.MlaAttnRefIdeal.nD Cert.MlaAttnRefIdeal.τ).loc Cert.MlaAttnRefIdeal.main_arg0) = m ((c.tc : Thread Cert.MlaAttnIdeal.nD Cert.MlaAttnIdeal.τ).loc Cert.MlaAttnIdeal.main_arg0)
      ∧ m' ((c.tc : Thread Cert.MlaAttnRefIdeal.nD Cert.MlaAttnRefIdeal.τ).loc Cert.MlaAttnRefIdeal.main_arg1) = m ((c.tc : Thread Cert.MlaAttnIdeal.nD Cert.MlaAttnIdeal.τ).loc Cert.MlaAttnIdeal.main_arg1)
      ∧ m' ((c.tc : Thread Cert.MlaAttnRefIdeal.nD Cert.MlaAttnRefIdeal.τ).loc Cert.MlaAttnRefIdeal.main_arg2) = m ((c.tc : Thread Cert.MlaAttnIdeal.nD Cert.MlaAttnIdeal.τ).loc Cert.MlaAttnIdeal.main_arg2)) →
    ∃ (v0 : (c : Dev Cert.MlaAttnIdeal.nD) → Buf (Elt Ideal) ((c.tc : Thread Cert.MlaAttnIdeal.nD Cert.MlaAttnIdeal.τ).loc Cert.MlaAttnIdeal.main_v0)),
      θ_run (Cert.MlaAttnIdeal.defs (F := Ideal)) (onTc (τ := Cert.MlaAttnIdeal.τ) (Cert.MlaAttnIdeal.main (F := Ideal))) ⟨m, fun _ => 0, g⟩ (fun r => ∀ c : Dev Cert.MlaAttnIdeal.nD,
          r.2.mem ((c.tc : Thread Cert.MlaAttnIdeal.nD Cert.MlaAttnIdeal.τ).loc Cert.MlaAttnIdeal.main_v0) = v0 c
          ∧ r.2.mem ((c.tc : Thread Cert.MlaAttnIdeal.nD Cert.MlaAttnIdeal.τ).loc Cert.MlaAttnIdeal.main_arg0) = m ((c.tc : Thread Cert.MlaAttnIdeal.nD Cert.MlaAttnIdeal.τ).loc Cert.MlaAttnIdeal.main_arg0)
          ∧ r.2.mem ((c.tc : Thread Cert.MlaAttnIdeal.nD Cert.MlaAttnIdeal.τ).loc Cert.MlaAttnIdeal.main_arg1) = m ((c.tc : Thread Cert.MlaAttnIdeal.nD Cert.MlaAttnIdeal.τ).loc Cert.MlaAttnIdeal.main_arg1)
          ∧ r.2.mem ((c.tc : Thread Cert.MlaAttnIdeal.nD Cert.MlaAttnIdeal.τ).loc Cert.MlaAttnIdeal.main_arg2) = m ((c.tc : Thread Cert.MlaAttnIdeal.nD Cert.MlaAttnIdeal.τ).loc Cert.MlaAttnIdeal.main_arg2))
      ∧ θ_run (Cert.MlaAttnRefIdeal.defs (F := Ideal)) (onTc (τ := Cert.MlaAttnRefIdeal.τ) (Cert.MlaAttnRefIdeal.main (F := Ideal))) ⟨m', fun _ => 0, g'⟩ (fun r => ∀ c : Dev Cert.MlaAttnRefIdeal.nD,
          r.2.mem ((c.tc : Thread Cert.MlaAttnRefIdeal.nD Cert.MlaAttnRefIdeal.τ).loc Cert.MlaAttnRefIdeal.main_v75) = v0 c
          ∧ r.2.mem ((c.tc : Thread Cert.MlaAttnRefIdeal.nD Cert.MlaAttnRefIdeal.τ).loc Cert.MlaAttnRefIdeal.main_arg0) = m' ((c.tc : Thread Cert.MlaAttnRefIdeal.nD Cert.MlaAttnRefIdeal.τ).loc Cert.MlaAttnRefIdeal.main_arg0)
          ∧ r.2.mem ((c.tc : Thread Cert.MlaAttnRefIdeal.nD Cert.MlaAttnRefIdeal.τ).loc Cert.MlaAttnRefIdeal.main_arg1) = m' ((c.tc : Thread Cert.MlaAttnRefIdeal.nD Cert.MlaAttnRefIdeal.τ).loc Cert.MlaAttnRefIdeal.main_arg1)
          ∧ r.2.mem ((c.tc : Thread Cert.MlaAttnRefIdeal.nD Cert.MlaAttnRefIdeal.τ).loc Cert.MlaAttnRefIdeal.main_arg2) = m' ((c.tc : Thread Cert.MlaAttnRefIdeal.nD Cert.MlaAttnRefIdeal.τ).loc Cert.MlaAttnRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)) →
    ∃ (v0 : (c : Dev Cert.FfnInIdeal.nD) → Buf (Elt Ideal) ((c.tc : Thread Cert.FfnInIdeal.nD Cert.FfnInIdeal.τ).loc Cert.FfnInIdeal.main_v2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v70) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3))

def preserves_NaQkv_NaQkvIdeal : Prop :=
  True

def algebraic_NaQkvIdeal_NaQkvRefIdeal [hNaQkvIdeal : Cert.NaQkvIdeal.Facts] [hNaQkvRefIdeal : Cert.NaQkvRefIdeal.Facts] : Prop :=
  ∀ (m : (ℓ : Loc Cert.NaQkvIdeal.nD Cert.NaQkvIdeal.τ Cert.NaQkvIdeal.sig) → Buf (Elt Ideal) ℓ) (g : Dev Cert.NaQkvIdeal.nD → PrngReg)
    (m' : (ℓ : Loc Cert.NaQkvRefIdeal.nD Cert.NaQkvRefIdeal.τ Cert.NaQkvRefIdeal.sig) → Buf (Elt Ideal) ℓ) (g' : Dev Cert.NaQkvRefIdeal.nD → PrngReg), Pre_NaQkvIdeal m →
    (∀ c : Dev Cert.NaQkvIdeal.nD,
      m' ((c.tc : Thread Cert.NaQkvRefIdeal.nD Cert.NaQkvRefIdeal.τ).loc Cert.NaQkvRefIdeal.main_arg0) = m ((c.tc : Thread Cert.NaQkvIdeal.nD Cert.NaQkvIdeal.τ).loc Cert.NaQkvIdeal.main_arg0)
      ∧ m' ((c.tc : Thread Cert.NaQkvRefIdeal.nD Cert.NaQkvRefIdeal.τ).loc Cert.NaQkvRefIdeal.main_arg1) = m ((c.tc : Thread Cert.NaQkvIdeal.nD Cert.NaQkvIdeal.τ).loc Cert.NaQkvIdeal.main_arg1)
      ∧ m' ((c.tc : Thread Cert.NaQkvRefIdeal.nD Cert.NaQkvRefIdeal.τ).loc Cert.NaQkvRefIdeal.main_arg2) = m ((c.tc : Thread Cert.NaQkvIdeal.nD Cert.NaQkvIdeal.τ).loc Cert.NaQkvIdeal.main_arg2)
      ∧ m' ((c.tc : Thread Cert.NaQkvRefIdeal.nD Cert.NaQkvRefIdeal.τ).loc Cert.NaQkvRefIdeal.main_arg3) = m ((c.tc : Thread Cert.NaQkvIdeal.nD Cert.NaQkvIdeal.τ).loc Cert.NaQkvIdeal.main_arg3)) →
    ∃ (v0 : (c : Dev Cert.NaQkvIdeal.nD) → Buf (Elt Ideal) ((c.tc : Thread Cert.NaQkvIdeal.nD Cert.NaQkvIdeal.τ).loc Cert.NaQkvIdeal.main_v2)),
      θ_run (Cert.NaQkvIdeal.defs (F := Ideal)) (onTc (τ := Cert.NaQkvIdeal.τ) (Cert.NaQkvIdeal.main (F := Ideal))) ⟨m, fun _ => 0, g⟩ (fun r => ∀ c : Dev Cert.NaQkvIdeal.nD,
          r.2.mem ((c.tc : Thread Cert.NaQkvIdeal.nD Cert.NaQkvIdeal.τ).loc Cert.NaQkvIdeal.main_v2) = v0 c
          ∧ r.2.mem ((c.tc : Thread Cert.NaQkvIdeal.nD Cert.NaQkvIdeal.τ).loc Cert.NaQkvIdeal.main_arg0) = m ((c.tc : Thread Cert.NaQkvIdeal.nD Cert.NaQkvIdeal.τ).loc Cert.NaQkvIdeal.main_arg0)
          ∧ r.2.mem ((c.tc : Thread Cert.NaQkvIdeal.nD Cert.NaQkvIdeal.τ).loc Cert.NaQkvIdeal.main_arg1) = m ((c.tc : Thread Cert.NaQkvIdeal.nD Cert.NaQkvIdeal.τ).loc Cert.NaQkvIdeal.main_arg1)
          ∧ r.2.mem ((c.tc : Thread Cert.NaQkvIdeal.nD Cert.NaQkvIdeal.τ).loc Cert.NaQkvIdeal.main_arg2) = m ((c.tc : Thread Cert.NaQkvIdeal.nD Cert.NaQkvIdeal.τ).loc Cert.NaQkvIdeal.main_arg2)
          ∧ r.2.mem ((c.tc : Thread Cert.NaQkvIdeal.nD Cert.NaQkvIdeal.τ).loc Cert.NaQkvIdeal.main_arg3) = m ((c.tc : Thread Cert.NaQkvIdeal.nD Cert.NaQkvIdeal.τ).loc Cert.NaQkvIdeal.main_arg3))
      ∧ θ_run (Cert.NaQkvRefIdeal.defs (F := Ideal)) (onTc (τ := Cert.NaQkvRefIdeal.τ) (Cert.NaQkvRefIdeal.main (F := Ideal))) ⟨m', fun _ => 0, g'⟩ (fun r => ∀ c : Dev Cert.NaQkvRefIdeal.nD,
          r.2.mem ((c.tc : Thread Cert.NaQkvRefIdeal.nD Cert.NaQkvRefIdeal.τ).loc Cert.NaQkvRefIdeal.main_v71) = v0 c
          ∧ r.2.mem ((c.tc : Thread Cert.NaQkvRefIdeal.nD Cert.NaQkvRefIdeal.τ).loc Cert.NaQkvRefIdeal.main_arg0) = m' ((c.tc : Thread Cert.NaQkvRefIdeal.nD Cert.NaQkvRefIdeal.τ).loc Cert.NaQkvRefIdeal.main_arg0)
          ∧ r.2.mem ((c.tc : Thread Cert.NaQkvRefIdeal.nD Cert.NaQkvRefIdeal.τ).loc Cert.NaQkvRefIdeal.main_arg1) = m' ((c.tc : Thread Cert.NaQkvRefIdeal.nD Cert.NaQkvRefIdeal.τ).loc Cert.NaQkvRefIdeal.main_arg1)
          ∧ r.2.mem ((c.tc : Thread Cert.NaQkvRefIdeal.nD Cert.NaQkvRefIdeal.τ).loc Cert.NaQkvRefIdeal.main_arg2) = m' ((c.tc : Thread Cert.NaQkvRefIdeal.nD Cert.NaQkvRefIdeal.τ).loc Cert.NaQkvRefIdeal.main_arg2)
          ∧ r.2.mem ((c.tc : Thread Cert.NaQkvRefIdeal.nD Cert.NaQkvRefIdeal.τ).loc Cert.NaQkvRefIdeal.main_arg3) = m' ((c.tc : Thread Cert.NaQkvRefIdeal.nD Cert.NaQkvRefIdeal.τ).loc Cert.NaQkvRefIdeal.main_arg3))

def preserves_MlaIn_MlaInIdeal : Prop :=
  True

def algebraic_MlaInIdeal_MlaInRefIdeal [hMlaInIdeal : Cert.MlaInIdeal.Facts] [hMlaInRefIdeal : Cert.MlaInRefIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInRefIdeal.nD Cert.MlaInRefIdeal.τ Cert.MlaInRefIdeal.sig) → Buf (Elt Ideal) ℓ) (g' : Dev Cert.MlaInRefIdeal.nD → PrngReg), Pre_MlaInIdeal m →
    (∀ c : Dev Cert.MlaInIdeal.nD,
      m' ((c.tc : Thread Cert.MlaInRefIdeal.nD Cert.MlaInRefIdeal.τ).loc Cert.MlaInRefIdeal.main_arg0) = m ((c.tc : Thread Cert.MlaInIdeal.nD Cert.MlaInIdeal.τ).loc Cert.MlaInIdeal.main_arg0)
      ∧ m' ((c.tc : Thread Cert.MlaInRefIdeal.nD Cert.MlaInRefIdeal.τ).loc Cert.MlaInRefIdeal.main_arg1) = m ((c.tc : Thread Cert.MlaInIdeal.nD Cert.MlaInIdeal.τ).loc Cert.MlaInIdeal.main_arg1)
      ∧ m' ((c.tc : Thread Cert.MlaInRefIdeal.nD Cert.MlaInRefIdeal.τ).loc Cert.MlaInRefIdeal.main_arg2) = m ((c.tc : Thread Cert.MlaInIdeal.nD Cert.MlaInIdeal.τ).loc Cert.MlaInIdeal.main_arg2)
      ∧ m' ((c.tc : Thread Cert.MlaInRefIdeal.nD Cert.MlaInRefIdeal.τ).loc Cert.MlaInRefIdeal.main_arg3) = m ((c.tc : Thread Cert.MlaInIdeal.nD Cert.MlaInIdeal.τ).loc Cert.MlaInIdeal.main_arg3)) →
    ∃ (v0 : (c : Dev Cert.MlaInIdeal.nD) → Buf (Elt Ideal) ((c.tc : Thread Cert.MlaInIdeal.nD Cert.MlaInIdeal.τ).loc Cert.MlaInIdeal.main_v2)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v2) = v0 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1)
          ∧ r.2.mem ((c.tc : Thread Cert.MlaInIdeal.nD Cert.MlaInIdeal.τ).loc Cert.MlaInIdeal.main_arg2) = m ((c.tc : Thread Cert.MlaInIdeal.nD Cert.MlaInIdeal.τ).loc Cert.MlaInIdeal.main_arg2)
          ∧ r.2.mem ((c.tc : Thread Cert.MlaInIdeal.nD Cert.MlaInIdeal.τ).loc Cert.MlaInIdeal.main_arg3) = m ((c.tc : Thread Cert.MlaInIdeal.nD Cert.MlaInIdeal.τ).loc Cert.MlaInIdeal.main_arg3))
      ∧ θ_run (Cert.MlaInRefIdeal.defs (F := Ideal)) (onTc (τ := Cert.MlaInRefIdeal.τ) (Cert.MlaInRefIdeal.main (F := Ideal))) ⟨m', fun _ => 0, g'⟩ (fun r => ∀ c : Dev Cert.MlaInRefIdeal.nD,
          r.2.mem ((c.tc : Thread Cert.MlaInRefIdeal.nD Cert.MlaInRefIdeal.τ).loc Cert.MlaInRefIdeal.main_v70) = v0 c
          ∧ r.2.mem ((c.tc : Thread Cert.MlaInRefIdeal.nD Cert.MlaInRefIdeal.τ).loc Cert.MlaInRefIdeal.main_arg0) = m' ((c.tc : Thread Cert.MlaInRefIdeal.nD Cert.MlaInRefIdeal.τ).loc Cert.MlaInRefIdeal.main_arg0)
          ∧ r.2.mem ((c.tc : Thread Cert.MlaInRefIdeal.nD Cert.MlaInRefIdeal.τ).loc Cert.MlaInRefIdeal.main_arg1) = m' ((c.tc : Thread Cert.MlaInRefIdeal.nD Cert.MlaInRefIdeal.τ).loc Cert.MlaInRefIdeal.main_arg1)
          ∧ r.2.mem ((c.tc : Thread Cert.MlaInRefIdeal.nD Cert.MlaInRefIdeal.τ).loc Cert.MlaInRefIdeal.main_arg2) = m' ((c.tc : Thread Cert.MlaInRefIdeal.nD Cert.MlaInRefIdeal.τ).loc Cert.MlaInRefIdeal.main_arg2)
          ∧ r.2.mem ((c.tc : Thread Cert.MlaInRefIdeal.nD Cert.MlaInRefIdeal.τ).loc Cert.MlaInRefIdeal.main_arg3) = m' ((c.tc : Thread Cert.MlaInRefIdeal.nD Cert.MlaInRefIdeal.τ).loc Cert.MlaInRefIdeal.main_arg3))

def preserves_SguIn_SguInIdeal : Prop :=
  True

def algebraic_SguInIdeal_SguInRefIdeal [hSguInIdeal : Cert.SguInIdeal.Facts] [hSguInRefIdeal : Cert.SguInRefIdeal.Facts] : Prop :=
  ∀ (m : (ℓ : Loc Cert.SguInIdeal.nD Cert.SguInIdeal.τ Cert.SguInIdeal.sig) → Buf (Elt Ideal) ℓ) (g : Dev Cert.SguInIdeal.nD → PrngReg)
    (m' : (ℓ : Loc Cert.SguInRefIdeal.nD Cert.SguInRefIdeal.τ Cert.SguInRefIdeal.sig) → Buf (Elt Ideal) ℓ) (g' : Dev Cert.SguInRefIdeal.nD → PrngReg), Pre_SguInIdeal m →
    (∀ c : Dev Cert.SguInIdeal.nD,
      m' ((c.tc : Thread Cert.SguInRefIdeal.nD Cert.SguInRefIdeal.τ).loc Cert.SguInRefIdeal.main_arg0) = m ((c.tc : Thread Cert.SguInIdeal.nD Cert.SguInIdeal.τ).loc Cert.SguInIdeal.main_arg0)
      ∧ m' ((c.tc : Thread Cert.SguInRefIdeal.nD Cert.SguInRefIdeal.τ).loc Cert.SguInRefIdeal.main_arg1) = m ((c.tc : Thread Cert.SguInIdeal.nD Cert.SguInIdeal.τ).loc Cert.SguInIdeal.main_arg1)
      ∧ m' ((c.tc : Thread Cert.SguInRefIdeal.nD Cert.SguInRefIdeal.τ).loc Cert.SguInRefIdeal.main_arg2) = m ((c.tc : Thread Cert.SguInIdeal.nD Cert.SguInIdeal.τ).loc Cert.SguInIdeal.main_arg2)
      ∧ m' ((c.tc : Thread Cert.SguInRefIdeal.nD Cert.SguInRefIdeal.τ).loc Cert.SguInRefIdeal.main_arg3) = m ((c.tc : Thread Cert.SguInIdeal.nD Cert.SguInIdeal.τ).loc Cert.SguInIdeal.main_arg3)
      ∧ m' ((c.tc : Thread Cert.SguInRefIdeal.nD Cert.SguInRefIdeal.τ).loc Cert.SguInRefIdeal.main_arg4) = m ((c.tc : Thread Cert.SguInIdeal.nD Cert.SguInIdeal.τ).loc Cert.SguInIdeal.main_arg4)) →
    ∃ (v0 : (c : Dev Cert.SguInIdeal.nD) → Buf (Elt Ideal) ((c.tc : Thread Cert.SguInIdeal.nD Cert.SguInIdeal.τ).loc Cert.SguInIdeal.main_v3)),
      θ_run (Cert.SguInIdeal.defs (F := Ideal)) (onTc (τ := Cert.SguInIdeal.τ) (Cert.SguInIdeal.main (F := Ideal))) ⟨m, fun _ => 0, g⟩ (fun r => ∀ c : Dev Cert.SguInIdeal.nD,
          r.2.mem ((c.tc : Thread Cert.SguInIdeal.nD Cert.SguInIdeal.τ).loc Cert.SguInIdeal.main_v3) = v0 c
          ∧ r.2.mem ((c.tc : Thread Cert.SguInIdeal.nD Cert.SguInIdeal.τ).loc Cert.SguInIdeal.main_arg0) = m ((c.tc : Thread Cert.SguInIdeal.nD Cert.SguInIdeal.τ).loc Cert.SguInIdeal.main_arg0)
          ∧ r.2.mem ((c.tc : Thread Cert.SguInIdeal.nD Cert.SguInIdeal.τ).loc Cert.SguInIdeal.main_arg1) = m ((c.tc : Thread Cert.SguInIdeal.nD Cert.SguInIdeal.τ).loc Cert.SguInIdeal.main_arg1)
          ∧ r.2.mem ((c.tc : Thread Cert.SguInIdeal.nD Cert.SguInIdeal.τ).loc Cert.SguInIdeal.main_arg2) = m ((c.tc : Thread Cert.SguInIdeal.nD Cert.SguInIdeal.τ).loc Cert.SguInIdeal.main_arg2)
          ∧ r.2.mem ((c.tc : Thread Cert.SguInIdeal.nD Cert.SguInIdeal.τ).loc Cert.SguInIdeal.main_arg3) = m ((c.tc : Thread Cert.SguInIdeal.nD Cert.SguInIdeal.τ).loc Cert.SguInIdeal.main_arg3)
          ∧ r.2.mem ((c.tc : Thread Cert.SguInIdeal.nD Cert.SguInIdeal.τ).loc Cert.SguInIdeal.main_arg4) = m ((c.tc : Thread Cert.SguInIdeal.nD Cert.SguInIdeal.τ).loc Cert.SguInIdeal.main_arg4))
      ∧ θ_run (Cert.SguInRefIdeal.defs (F := Ideal)) (onTc (τ := Cert.SguInRefIdeal.τ) (Cert.SguInRefIdeal.main (F := Ideal))) ⟨m', fun _ => 0, g'⟩ (fun r => ∀ c : Dev Cert.SguInRefIdeal.nD,
          r.2.mem ((c.tc : Thread Cert.SguInRefIdeal.nD Cert.SguInRefIdeal.τ).loc Cert.SguInRefIdeal.main_v90) = v0 c
          ∧ r.2.mem ((c.tc : Thread Cert.SguInRefIdeal.nD Cert.SguInRefIdeal.τ).loc Cert.SguInRefIdeal.main_arg0) = m' ((c.tc : Thread Cert.SguInRefIdeal.nD Cert.SguInRefIdeal.τ).loc Cert.SguInRefIdeal.main_arg0)
          ∧ r.2.mem ((c.tc : Thread Cert.SguInRefIdeal.nD Cert.SguInRefIdeal.τ).loc Cert.SguInRefIdeal.main_arg1) = m' ((c.tc : Thread Cert.SguInRefIdeal.nD Cert.SguInRefIdeal.τ).loc Cert.SguInRefIdeal.main_arg1)
          ∧ r.2.mem ((c.tc : Thread Cert.SguInRefIdeal.nD Cert.SguInRefIdeal.τ).loc Cert.SguInRefIdeal.main_arg2) = m' ((c.tc : Thread Cert.SguInRefIdeal.nD Cert.SguInRefIdeal.τ).loc Cert.SguInRefIdeal.main_arg2)
          ∧ r.2.mem ((c.tc : Thread Cert.SguInRefIdeal.nD Cert.SguInRefIdeal.τ).loc Cert.SguInRefIdeal.main_arg3) = m' ((c.tc : Thread Cert.SguInRefIdeal.nD Cert.SguInRefIdeal.τ).loc Cert.SguInRefIdeal.main_arg3)
          ∧ r.2.mem ((c.tc : Thread Cert.SguInRefIdeal.nD Cert.SguInRefIdeal.τ).loc Cert.SguInRefIdeal.main_arg4) = m' ((c.tc : Thread Cert.SguInRefIdeal.nD Cert.SguInRefIdeal.τ).loc Cert.SguInRefIdeal.main_arg4))

def preserves_MixerOut_MixerOutIdeal : Prop :=
  True

def algebraic_MixerOutIdeal_MixerOutRefIdeal [hMixerOutIdeal : Cert.MixerOutIdeal.Facts] [hMixerOutRefIdeal : Cert.MixerOutRefIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutIdeal m →
    (∀ c : Dev Cert.MixerOutIdeal.nD,
      m' ((c.tc : Thread Cert.MixerOutRefIdeal.nD Cert.MixerOutRefIdeal.τ).loc Cert.MixerOutRefIdeal.main_arg0) = m ((c.tc : Thread Cert.MixerOutIdeal.nD Cert.MixerOutIdeal.τ).loc Cert.MixerOutIdeal.main_arg0)
      ∧ m' ((c.tc : Thread Cert.MixerOutRefIdeal.nD Cert.MixerOutRefIdeal.τ).loc Cert.MixerOutRefIdeal.main_arg1) = m ((c.tc : Thread Cert.MixerOutIdeal.nD Cert.MixerOutIdeal.τ).loc Cert.MixerOutIdeal.main_arg1)
      ∧ m' ((c.tc : Thread Cert.MixerOutRefIdeal.nD Cert.MixerOutRefIdeal.τ).loc Cert.MixerOutRefIdeal.main_arg2) = m ((c.tc : Thread Cert.MixerOutIdeal.nD Cert.MixerOutIdeal.τ).loc Cert.MixerOutIdeal.main_arg2)
      ∧ m' ((c.tc : Thread Cert.MixerOutRefIdeal.nD Cert.MixerOutRefIdeal.τ).loc Cert.MixerOutRefIdeal.main_arg3) = m ((c.tc : Thread Cert.MixerOutIdeal.nD Cert.MixerOutIdeal.τ).loc Cert.MixerOutIdeal.main_arg3)) →
    ∃ (v0 : (c : Dev Cert.MixerOutIdeal.nD) → Buf (Elt Ideal) ((c.tc : Thread Cert.MixerOutIdeal.nD Cert.MixerOutIdeal.τ).loc Cert.MixerOutIdeal.main_v1)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v1) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v42) = v0 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1)
          ∧ r.2.mem ((c.tc : Thread Cert.MixerOutRefIdeal.nD Cert.MixerOutRefIdeal.τ).loc Cert.MixerOutRefIdeal.main_arg2) = m' ((c.tc : Thread Cert.MixerOutRefIdeal.nD Cert.MixerOutRefIdeal.τ).loc Cert.MixerOutRefIdeal.main_arg2)
          ∧ r.2.mem ((c.tc : Thread Cert.MixerOutRefIdeal.nD Cert.MixerOutRefIdeal.τ).loc Cert.MixerOutRefIdeal.main_arg3) = m' ((c.tc : Thread Cert.MixerOutRefIdeal.nD Cert.MixerOutRefIdeal.τ).loc Cert.MixerOutRefIdeal.main_arg3))

def preserves_ConvGate_ConvGateIdeal : Prop :=
  True

def algebraic_ConvGateIdeal_ConvGateRefIdeal [hConvGateIdeal : Cert.ConvGateIdeal.Facts] [hConvGateRefIdeal : Cert.ConvGateRefIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateRefIdeal.nD Cert.ConvGateRefIdeal.τ Cert.ConvGateRefIdeal.sig) → Buf (Elt Ideal) ℓ) (g' : Dev Cert.ConvGateRefIdeal.nD → PrngReg), Pre_ConvGateIdeal m →
    (∀ c : Dev Cert.ConvGateIdeal.nD,
      m' ((c.tc : Thread Cert.ConvGateRefIdeal.nD Cert.ConvGateRefIdeal.τ).loc Cert.ConvGateRefIdeal.main_arg0) = m ((c.tc : Thread Cert.ConvGateIdeal.nD Cert.ConvGateIdeal.τ).loc Cert.ConvGateIdeal.main_arg0)
      ∧ m' ((c.tc : Thread Cert.ConvGateRefIdeal.nD Cert.ConvGateRefIdeal.τ).loc Cert.ConvGateRefIdeal.main_arg1) = m ((c.tc : Thread Cert.ConvGateIdeal.nD Cert.ConvGateIdeal.τ).loc Cert.ConvGateIdeal.main_arg1)
      ∧ m' ((c.tc : Thread Cert.ConvGateRefIdeal.nD Cert.ConvGateRefIdeal.τ).loc Cert.ConvGateRefIdeal.main_arg2) = m ((c.tc : Thread Cert.ConvGateIdeal.nD Cert.ConvGateIdeal.τ).loc Cert.ConvGateIdeal.main_arg2)) →
    ∃ (v0 : (c : Dev Cert.ConvGateIdeal.nD) → Buf (Elt Ideal) ((c.tc : Thread Cert.ConvGateIdeal.nD Cert.ConvGateIdeal.τ).loc Cert.ConvGateIdeal.main_v1)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v1) = v0 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
          ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ θ_run (Cert.ConvGateRefIdeal.defs (F := Ideal)) (onTc (τ := Cert.ConvGateRefIdeal.τ) (Cert.ConvGateRefIdeal.main (F := Ideal))) ⟨m', fun _ => 0, g'⟩ (fun r => ∀ c : Dev Cert.ConvGateRefIdeal.nD,
          r.2.mem ((c.tc : Thread Cert.ConvGateRefIdeal.nD Cert.ConvGateRefIdeal.τ).loc Cert.ConvGateRefIdeal.main_v67) = v0 c
          ∧ r.2.mem ((c.tc : Thread Cert.ConvGateRefIdeal.nD Cert.ConvGateRefIdeal.τ).loc Cert.ConvGateRefIdeal.main_arg0) = m' ((c.tc : Thread Cert.ConvGateRefIdeal.nD Cert.ConvGateRefIdeal.τ).loc Cert.ConvGateRefIdeal.main_arg0)
          ∧ r.2.mem ((c.tc : Thread Cert.ConvGateRefIdeal.nD Cert.ConvGateRefIdeal.τ).loc Cert.ConvGateRefIdeal.main_arg1) = m' ((c.tc : Thread Cert.ConvGateRefIdeal.nD Cert.ConvGateRefIdeal.τ).loc Cert.ConvGateRefIdeal.main_arg1)
          ∧ r.2.mem ((c.tc : Thread Cert.ConvGateRefIdeal.nD Cert.ConvGateRefIdeal.τ).loc Cert.ConvGateRefIdeal.main_arg2) = m' ((c.tc : Thread Cert.ConvGateRefIdeal.nD Cert.ConvGateRefIdeal.τ).loc Cert.ConvGateRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v1) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v42) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_MixerOutLast_MixerOutLastIdeal : Prop :=
  True

def algebraic_MixerOutLastIdeal_MixerOutLastRefIdeal [hMixerOutLastIdeal : Cert.MixerOutLastIdeal.Facts] [hMixerOutLastRefIdeal : Cert.MixerOutLastRefIdeal.Facts] : Prop :=
  ∀ (m : (ℓ : Loc Cert.MixerOutLastIdeal.nD Cert.MixerOutLastIdeal.τ Cert.MixerOutLastIdeal.sig) → Buf (Elt Ideal) ℓ) (g : Dev Cert.MixerOutLastIdeal.nD → PrngReg)
    (m' : (ℓ : Loc Cert.MixerOutLastRefIdeal.nD Cert.MixerOutLastRefIdeal.τ Cert.MixerOutLastRefIdeal.sig) → Buf (Elt Ideal) ℓ) (g' : Dev Cert.MixerOutLastRefIdeal.nD → PrngReg), Pre_MixerOutLastIdeal m →
    (∀ c : Dev Cert.MixerOutLastIdeal.nD,
      m' ((c.tc : Thread Cert.MixerOutLastRefIdeal.nD Cert.MixerOutLastRefIdeal.τ).loc Cert.MixerOutLastRefIdeal.main_arg0) = m ((c.tc : Thread Cert.MixerOutLastIdeal.nD Cert.MixerOutLastIdeal.τ).loc Cert.MixerOutLastIdeal.main_arg0)
      ∧ m' ((c.tc : Thread Cert.MixerOutLastRefIdeal.nD Cert.MixerOutLastRefIdeal.τ).loc Cert.MixerOutLastRefIdeal.main_arg1) = m ((c.tc : Thread Cert.MixerOutLastIdeal.nD Cert.MixerOutLastIdeal.τ).loc Cert.MixerOutLastIdeal.main_arg1)
      ∧ m' ((c.tc : Thread Cert.MixerOutLastRefIdeal.nD Cert.MixerOutLastRefIdeal.τ).loc Cert.MixerOutLastRefIdeal.main_arg2) = m ((c.tc : Thread Cert.MixerOutLastIdeal.nD Cert.MixerOutLastIdeal.τ).loc Cert.MixerOutLastIdeal.main_arg2)
      ∧ m' ((c.tc : Thread Cert.MixerOutLastRefIdeal.nD Cert.MixerOutLastRefIdeal.τ).loc Cert.MixerOutLastRefIdeal.main_arg3) = m ((c.tc : Thread Cert.MixerOutLastIdeal.nD Cert.MixerOutLastIdeal.τ).loc Cert.MixerOutLastIdeal.main_arg3)) →
    ∃ (v0 : (c : Dev Cert.MixerOutLastIdeal.nD) → Buf (Elt Ideal) ((c.tc : Thread Cert.MixerOutLastIdeal.nD Cert.MixerOutLastIdeal.τ).loc Cert.MixerOutLastIdeal.main_v1)),
      θ_run (Cert.MixerOutLastIdeal.defs (F := Ideal)) (onTc (τ := Cert.MixerOutLastIdeal.τ) (Cert.MixerOutLastIdeal.main (F := Ideal))) ⟨m, fun _ => 0, g⟩ (fun r => ∀ c : Dev Cert.MixerOutLastIdeal.nD,
          r.2.mem ((c.tc : Thread Cert.MixerOutLastIdeal.nD Cert.MixerOutLastIdeal.τ).loc Cert.MixerOutLastIdeal.main_v1) = v0 c
          ∧ r.2.mem ((c.tc : Thread Cert.MixerOutLastIdeal.nD Cert.MixerOutLastIdeal.τ).loc Cert.MixerOutLastIdeal.main_arg0) = m ((c.tc : Thread Cert.MixerOutLastIdeal.nD Cert.MixerOutLastIdeal.τ).loc Cert.MixerOutLastIdeal.main_arg0)
          ∧ r.2.mem ((c.tc : Thread Cert.MixerOutLastIdeal.nD Cert.MixerOutLastIdeal.τ).loc Cert.MixerOutLastIdeal.main_arg1) = m ((c.tc : Thread Cert.MixerOutLastIdeal.nD Cert.MixerOutLastIdeal.τ).loc Cert.MixerOutLastIdeal.main_arg1)
          ∧ r.2.mem ((c.tc : Thread Cert.MixerOutLastIdeal.nD Cert.MixerOutLastIdeal.τ).loc Cert.MixerOutLastIdeal.main_arg2) = m ((c.tc : Thread Cert.MixerOutLastIdeal.nD Cert.MixerOutLastIdeal.τ).loc Cert.MixerOutLastIdeal.main_arg2)
          ∧ r.2.mem ((c.tc : Thread Cert.MixerOutLastIdeal.nD Cert.MixerOutLastIdeal.τ).loc Cert.MixerOutLastIdeal.main_arg3) = m ((c.tc : Thread Cert.MixerOutLastIdeal.nD Cert.MixerOutLastIdeal.τ).loc Cert.MixerOutLastIdeal.main_arg3))
      ∧ θ_run (Cert.MixerOutLastRefIdeal.defs (F := Ideal)) (onTc (τ := Cert.MixerOutLastRefIdeal.τ) (Cert.MixerOutLastRefIdeal.main (F := Ideal))) ⟨m', fun _ => 0, g'⟩ (fun r => ∀ c : Dev Cert.MixerOutLastRefIdeal.nD,
          r.2.mem ((c.tc : Thread Cert.MixerOutLastRefIdeal.nD Cert.MixerOutLastRefIdeal.τ).loc Cert.MixerOutLastRefIdeal.main_v31) = v0 c
          ∧ r.2.mem ((c.tc : Thread Cert.MixerOutLastRefIdeal.nD Cert.MixerOutLastRefIdeal.τ).loc Cert.MixerOutLastRefIdeal.main_arg0) = m' ((c.tc : Thread Cert.MixerOutLastRefIdeal.nD Cert.MixerOutLastRefIdeal.τ).loc Cert.MixerOutLastRefIdeal.main_arg0)
          ∧ r.2.mem ((c.tc : Thread Cert.MixerOutLastRefIdeal.nD Cert.MixerOutLastRefIdeal.τ).loc Cert.MixerOutLastRefIdeal.main_arg1) = m' ((c.tc : Thread Cert.MixerOutLastRefIdeal.nD Cert.MixerOutLastRefIdeal.τ).loc Cert.MixerOutLastRefIdeal.main_arg1)
          ∧ r.2.mem ((c.tc : Thread Cert.MixerOutLastRefIdeal.nD Cert.MixerOutLastRefIdeal.τ).loc Cert.MixerOutLastRefIdeal.main_arg2) = m' ((c.tc : Thread Cert.MixerOutLastRefIdeal.nD Cert.MixerOutLastRefIdeal.τ).loc Cert.MixerOutLastRefIdeal.main_arg2)
          ∧ r.2.mem ((c.tc : Thread Cert.MixerOutLastRefIdeal.nD Cert.MixerOutLastRefIdeal.τ).loc Cert.MixerOutLastRefIdeal.main_arg3) = m' ((c.tc : Thread Cert.MixerOutLastRefIdeal.nD Cert.MixerOutLastRefIdeal.τ).loc Cert.MixerOutLastRefIdeal.main_arg3))

def preserves_FfnInLast_FfnInLastIdeal : Prop :=
  True

def algebraic_FfnInLastIdeal_FfnInLastRefIdeal [hFfnInLastIdeal : Cert.FfnInLastIdeal.Facts] [hFfnInLastRefIdeal : Cert.FfnInLastRefIdeal.Facts] : Prop :=
  ∀ (m : (ℓ : Loc Cert.FfnInLastIdeal.nD Cert.FfnInLastIdeal.τ Cert.FfnInLastIdeal.sig) → Buf (Elt Ideal) ℓ) (g : Dev Cert.FfnInLastIdeal.nD → PrngReg)
    (m' : (ℓ : Loc Cert.FfnInLastRefIdeal.nD Cert.FfnInLastRefIdeal.τ Cert.FfnInLastRefIdeal.sig) → Buf (Elt Ideal) ℓ) (g' : Dev Cert.FfnInLastRefIdeal.nD → PrngReg), Pre_FfnInLastIdeal m →
    (∀ c : Dev Cert.FfnInLastIdeal.nD,
      m' ((c.tc : Thread Cert.FfnInLastRefIdeal.nD Cert.FfnInLastRefIdeal.τ).loc Cert.FfnInLastRefIdeal.main_arg0) = m ((c.tc : Thread Cert.FfnInLastIdeal.nD Cert.FfnInLastIdeal.τ).loc Cert.FfnInLastIdeal.main_arg0)
      ∧ m' ((c.tc : Thread Cert.FfnInLastRefIdeal.nD Cert.FfnInLastRefIdeal.τ).loc Cert.FfnInLastRefIdeal.main_arg1) = m ((c.tc : Thread Cert.FfnInLastIdeal.nD Cert.FfnInLastIdeal.τ).loc Cert.FfnInLastIdeal.main_arg1)
      ∧ m' ((c.tc : Thread Cert.FfnInLastRefIdeal.nD Cert.FfnInLastRefIdeal.τ).loc Cert.FfnInLastRefIdeal.main_arg2) = m ((c.tc : Thread Cert.FfnInLastIdeal.nD Cert.FfnInLastIdeal.τ).loc Cert.FfnInLastIdeal.main_arg2)
      ∧ m' ((c.tc : Thread Cert.FfnInLastRefIdeal.nD Cert.FfnInLastRefIdeal.τ).loc Cert.FfnInLastRefIdeal.main_arg3) = m ((c.tc : Thread Cert.FfnInLastIdeal.nD Cert.FfnInLastIdeal.τ).loc Cert.FfnInLastIdeal.main_arg3)) →
    ∃ (v0 : (c : Dev Cert.FfnInLastIdeal.nD) → Buf (Elt Ideal) ((c.tc : Thread Cert.FfnInLastIdeal.nD Cert.FfnInLastIdeal.τ).loc Cert.FfnInLastIdeal.main_v2)),
      θ_run (Cert.FfnInLastIdeal.defs (F := Ideal)) (onTc (τ := Cert.FfnInLastIdeal.τ) (Cert.FfnInLastIdeal.main (F := Ideal))) ⟨m, fun _ => 0, g⟩ (fun r => ∀ c : Dev Cert.FfnInLastIdeal.nD,
          r.2.mem ((c.tc : Thread Cert.FfnInLastIdeal.nD Cert.FfnInLastIdeal.τ).loc Cert.FfnInLastIdeal.main_v2) = v0 c
          ∧ r.2.mem ((c.tc : Thread Cert.FfnInLastIdeal.nD Cert.FfnInLastIdeal.τ).loc Cert.FfnInLastIdeal.main_arg0) = m ((c.tc : Thread Cert.FfnInLastIdeal.nD Cert.FfnInLastIdeal.τ).loc Cert.FfnInLastIdeal.main_arg0)
          ∧ r.2.mem ((c.tc : Thread Cert.FfnInLastIdeal.nD Cert.FfnInLastIdeal.τ).loc Cert.FfnInLastIdeal.main_arg1) = m ((c.tc : Thread Cert.FfnInLastIdeal.nD Cert.FfnInLastIdeal.τ).loc Cert.FfnInLastIdeal.main_arg1)
          ∧ r.2.mem ((c.tc : Thread Cert.FfnInLastIdeal.nD Cert.FfnInLastIdeal.τ).loc Cert.FfnInLastIdeal.main_arg2) = m ((c.tc : Thread Cert.FfnInLastIdeal.nD Cert.FfnInLastIdeal.τ).loc Cert.FfnInLastIdeal.main_arg2)
          ∧ r.2.mem ((c.tc : Thread Cert.FfnInLastIdeal.nD Cert.FfnInLastIdeal.τ).loc Cert.FfnInLastIdeal.main_arg3) = m ((c.tc : Thread Cert.FfnInLastIdeal.nD Cert.FfnInLastIdeal.τ).loc Cert.FfnInLastIdeal.main_arg3))
      ∧ θ_run (Cert.FfnInLastRefIdeal.defs (F := Ideal)) (onTc (τ := Cert.FfnInLastRefIdeal.τ) (Cert.FfnInLastRefIdeal.main (F := Ideal))) ⟨m', fun _ => 0, g'⟩ (fun r => ∀ c : Dev Cert.FfnInLastRefIdeal.nD,
          r.2.mem ((c.tc : Thread Cert.FfnInLastRefIdeal.nD Cert.FfnInLastRefIdeal.τ).loc Cert.FfnInLastRefIdeal.main_v43) = v0 c
          ∧ r.2.mem ((c.tc : Thread Cert.FfnInLastRefIdeal.nD Cert.FfnInLastRefIdeal.τ).loc Cert.FfnInLastRefIdeal.main_arg0) = m' ((c.tc : Thread Cert.FfnInLastRefIdeal.nD Cert.FfnInLastRefIdeal.τ).loc Cert.FfnInLastRefIdeal.main_arg0)
          ∧ r.2.mem ((c.tc : Thread Cert.FfnInLastRefIdeal.nD Cert.FfnInLastRefIdeal.τ).loc Cert.FfnInLastRefIdeal.main_arg1) = m' ((c.tc : Thread Cert.FfnInLastRefIdeal.nD Cert.FfnInLastRefIdeal.τ).loc Cert.FfnInLastRefIdeal.main_arg1)
          ∧ r.2.mem ((c.tc : Thread Cert.FfnInLastRefIdeal.nD Cert.FfnInLastRefIdeal.τ).loc Cert.FfnInLastRefIdeal.main_arg2) = m' ((c.tc : Thread Cert.FfnInLastRefIdeal.nD Cert.FfnInLastRefIdeal.τ).loc Cert.FfnInLastRefIdeal.main_arg2)
          ∧ r.2.mem ((c.tc : Thread Cert.FfnInLastRefIdeal.nD Cert.FfnInLastRefIdeal.τ).loc Cert.FfnInLastRefIdeal.main_arg3) = m' ((c.tc : Thread Cert.FfnInLastRefIdeal.nD Cert.FfnInLastRefIdeal.τ).loc Cert.FfnInLastRefIdeal.main_arg3))

def preserves_FfnOutLast_FfnOutLastIdeal : Prop :=
  True

def algebraic_FfnOutLastIdeal_FfnOutLastRefIdeal [hFfnOutLastIdeal : Cert.FfnOutLastIdeal.Facts] [hFfnOutLastRefIdeal : Cert.FfnOutLastRefIdeal.Facts] : Prop :=
  ∀ (m : (ℓ : Loc Cert.FfnOutLastIdeal.nD Cert.FfnOutLastIdeal.τ Cert.FfnOutLastIdeal.sig) → Buf (Elt Ideal) ℓ) (g : Dev Cert.FfnOutLastIdeal.nD → PrngReg)
    (m' : (ℓ : Loc Cert.FfnOutLastRefIdeal.nD Cert.FfnOutLastRefIdeal.τ Cert.FfnOutLastRefIdeal.sig) → Buf (Elt Ideal) ℓ) (g' : Dev Cert.FfnOutLastRefIdeal.nD → PrngReg), Pre_FfnOutLastIdeal m →
    (∀ c : Dev Cert.FfnOutLastIdeal.nD,
      m' ((c.tc : Thread Cert.FfnOutLastRefIdeal.nD Cert.FfnOutLastRefIdeal.τ).loc Cert.FfnOutLastRefIdeal.main_arg0) = m ((c.tc : Thread Cert.FfnOutLastIdeal.nD Cert.FfnOutLastIdeal.τ).loc Cert.FfnOutLastIdeal.main_arg0)
      ∧ m' ((c.tc : Thread Cert.FfnOutLastRefIdeal.nD Cert.FfnOutLastRefIdeal.τ).loc Cert.FfnOutLastRefIdeal.main_arg1) = m ((c.tc : Thread Cert.FfnOutLastIdeal.nD Cert.FfnOutLastIdeal.τ).loc Cert.FfnOutLastIdeal.main_arg1)
      ∧ m' ((c.tc : Thread Cert.FfnOutLastRefIdeal.nD Cert.FfnOutLastRefIdeal.τ).loc Cert.FfnOutLastRefIdeal.main_arg2) = m ((c.tc : Thread Cert.FfnOutLastIdeal.nD Cert.FfnOutLastIdeal.τ).loc Cert.FfnOutLastIdeal.main_arg2)
      ∧ m' ((c.tc : Thread Cert.FfnOutLastRefIdeal.nD Cert.FfnOutLastRefIdeal.τ).loc Cert.FfnOutLastRefIdeal.main_arg3) = m ((c.tc : Thread Cert.FfnOutLastIdeal.nD Cert.FfnOutLastIdeal.τ).loc Cert.FfnOutLastIdeal.main_arg3)) →
    ∃ (v0 : (c : Dev Cert.FfnOutLastIdeal.nD) → Buf (Elt Ideal) ((c.tc : Thread Cert.FfnOutLastIdeal.nD Cert.FfnOutLastIdeal.τ).loc Cert.FfnOutLastIdeal.main_v1)),
      θ_run (Cert.FfnOutLastIdeal.defs (F := Ideal)) (onTc (τ := Cert.FfnOutLastIdeal.τ) (Cert.FfnOutLastIdeal.main (F := Ideal))) ⟨m, fun _ => 0, g⟩ (fun r => ∀ c : Dev Cert.FfnOutLastIdeal.nD,
          r.2.mem ((c.tc : Thread Cert.FfnOutLastIdeal.nD Cert.FfnOutLastIdeal.τ).loc Cert.FfnOutLastIdeal.main_v1) = v0 c
          ∧ r.2.mem ((c.tc : Thread Cert.FfnOutLastIdeal.nD Cert.FfnOutLastIdeal.τ).loc Cert.FfnOutLastIdeal.main_arg0) = m ((c.tc : Thread Cert.FfnOutLastIdeal.nD Cert.FfnOutLastIdeal.τ).loc Cert.FfnOutLastIdeal.main_arg0)
          ∧ r.2.mem ((c.tc : Thread Cert.FfnOutLastIdeal.nD Cert.FfnOutLastIdeal.τ).loc Cert.FfnOutLastIdeal.main_arg1) = m ((c.tc : Thread Cert.FfnOutLastIdeal.nD Cert.FfnOutLastIdeal.τ).loc Cert.FfnOutLastIdeal.main_arg1)
          ∧ r.2.mem ((c.tc : Thread Cert.FfnOutLastIdeal.nD Cert.FfnOutLastIdeal.τ).loc Cert.FfnOutLastIdeal.main_arg2) = m ((c.tc : Thread Cert.FfnOutLastIdeal.nD Cert.FfnOutLastIdeal.τ).loc Cert.FfnOutLastIdeal.main_arg2)
          ∧ r.2.mem ((c.tc : Thread Cert.FfnOutLastIdeal.nD Cert.FfnOutLastIdeal.τ).loc Cert.FfnOutLastIdeal.main_arg3) = m ((c.tc : Thread Cert.FfnOutLastIdeal.nD Cert.FfnOutLastIdeal.τ).loc Cert.FfnOutLastIdeal.main_arg3))
      ∧ θ_run (Cert.FfnOutLastRefIdeal.defs (F := Ideal)) (onTc (τ := Cert.FfnOutLastRefIdeal.τ) (Cert.FfnOutLastRefIdeal.main (F := Ideal))) ⟨m', fun _ => 0, g'⟩ (fun r => ∀ c : Dev Cert.FfnOutLastRefIdeal.nD,
          r.2.mem ((c.tc : Thread Cert.FfnOutLastRefIdeal.nD Cert.FfnOutLastRefIdeal.τ).loc Cert.FfnOutLastRefIdeal.main_v29) = v0 c
          ∧ r.2.mem ((c.tc : Thread Cert.FfnOutLastRefIdeal.nD Cert.FfnOutLastRefIdeal.τ).loc Cert.FfnOutLastRefIdeal.main_arg0) = m' ((c.tc : Thread Cert.FfnOutLastRefIdeal.nD Cert.FfnOutLastRefIdeal.τ).loc Cert.FfnOutLastRefIdeal.main_arg0)
          ∧ r.2.mem ((c.tc : Thread Cert.FfnOutLastRefIdeal.nD Cert.FfnOutLastRefIdeal.τ).loc Cert.FfnOutLastRefIdeal.main_arg1) = m' ((c.tc : Thread Cert.FfnOutLastRefIdeal.nD Cert.FfnOutLastRefIdeal.τ).loc Cert.FfnOutLastRefIdeal.main_arg1)
          ∧ r.2.mem ((c.tc : Thread Cert.FfnOutLastRefIdeal.nD Cert.FfnOutLastRefIdeal.τ).loc Cert.FfnOutLastRefIdeal.main_arg2) = m' ((c.tc : Thread Cert.FfnOutLastRefIdeal.nD Cert.FfnOutLastRefIdeal.τ).loc Cert.FfnOutLastRefIdeal.main_arg2)
          ∧ r.2.mem ((c.tc : Thread Cert.FfnOutLastRefIdeal.nD Cert.FfnOutLastRefIdeal.τ).loc Cert.FfnOutLastRefIdeal.main_arg3) = m' ((c.tc : Thread Cert.FfnOutLastRefIdeal.nD Cert.FfnOutLastRefIdeal.τ).loc Cert.FfnOutLastRefIdeal.main_arg3))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v14) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def Claim : Prop :=
  ∃ (hMlaAttn : Cert.MlaAttn.Facts) (hMlaAttnIdeal : Cert.MlaAttnIdeal.Facts) (hMlaAttnRefIdeal : Cert.MlaAttnRefIdeal.Facts) (hFfnIn : Cert.FfnIn.Facts) (hFfnInIdeal : Cert.FfnInIdeal.Facts) (hFfnInRefIdeal : Cert.FfnInRefIdeal.Facts) (hNaQkv : Cert.NaQkv.Facts) (hNaQkvIdeal : Cert.NaQkvIdeal.Facts) (hNaQkvRefIdeal : Cert.NaQkvRefIdeal.Facts) (hMlaIn : Cert.MlaIn.Facts) (hMlaInIdeal : Cert.MlaInIdeal.Facts) (hMlaInRefIdeal : Cert.MlaInRefIdeal.Facts) (hSguIn : Cert.SguIn.Facts) (hSguInIdeal : Cert.SguInIdeal.Facts) (hSguInRefIdeal : Cert.SguInRefIdeal.Facts) (hMixerOut : Cert.MixerOut.Facts) (hMixerOutIdeal : Cert.MixerOutIdeal.Facts) (hMixerOutRefIdeal : Cert.MixerOutRefIdeal.Facts) (hConvGate : Cert.ConvGate.Facts) (hConvGateIdeal : Cert.ConvGateIdeal.Facts) (hConvGateRefIdeal : Cert.ConvGateRefIdeal.Facts) (hFfnOut : Cert.FfnOut.Facts) (hFfnOutIdeal : Cert.FfnOutIdeal.Facts) (hFfnOutRefIdeal : Cert.FfnOutRefIdeal.Facts) (hMixerOutLast : Cert.MixerOutLast.Facts) (hMixerOutLastIdeal : Cert.MixerOutLastIdeal.Facts) (hMixerOutLastRefIdeal : Cert.MixerOutLastRefIdeal.Facts) (hFfnInLast : Cert.FfnInLast.Facts) (hFfnInLastIdeal : Cert.FfnInLastIdeal.Facts) (hFfnInLastRefIdeal : Cert.FfnInLastRefIdeal.Facts) (hFfnOutLast : Cert.FfnOutLast.Facts) (hFfnOutLastIdeal : Cert.FfnOutLastIdeal.Facts) (hFfnOutLastRefIdeal : Cert.FfnOutLastRefIdeal.Facts) (hFinalNorm : Cert.FinalNorm.Facts) (hFinalNormIdeal : Cert.FinalNormIdeal.Facts) (hFinalNormRefIdeal : Cert.FinalNormRefIdeal.Facts) (hPre_finite : Cert.Pre_finite.Facts),
    quiescent_MlaAttn (hMlaAttn := hMlaAttn)
    ∧ quiescent_MlaAttnIdeal (hMlaAttnIdeal := hMlaAttnIdeal)
    ∧ quiescent_MlaAttnIdeal_pre_finite (hMlaAttnIdeal := hMlaAttnIdeal) (hPre_finite := hPre_finite)
    ∧ quiescent_MlaAttnRefIdeal (hMlaAttnRefIdeal := hMlaAttnRefIdeal)
    ∧ quiescent_MlaAttnRefIdeal_pre_finite (hMlaAttnRefIdeal := hMlaAttnRefIdeal) (hPre_finite := hPre_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_NaQkv (hNaQkv := hNaQkv)
    ∧ quiescent_NaQkvIdeal (hNaQkvIdeal := hNaQkvIdeal)
    ∧ quiescent_NaQkvRefIdeal (hNaQkvRefIdeal := hNaQkvRefIdeal)
    ∧ quiescent_MlaIn (hMlaIn := hMlaIn)
    ∧ quiescent_MlaInIdeal (hMlaInIdeal := hMlaInIdeal)
    ∧ quiescent_MlaInRefIdeal (hMlaInRefIdeal := hMlaInRefIdeal)
    ∧ quiescent_SguIn (hSguIn := hSguIn)
    ∧ quiescent_SguInIdeal (hSguInIdeal := hSguInIdeal)
    ∧ quiescent_SguInRefIdeal (hSguInRefIdeal := hSguInRefIdeal)
    ∧ quiescent_MixerOut (hMixerOut := hMixerOut)
    ∧ quiescent_MixerOutIdeal (hMixerOutIdeal := hMixerOutIdeal)
    ∧ quiescent_MixerOutRefIdeal (hMixerOutRefIdeal := hMixerOutRefIdeal)
    ∧ quiescent_ConvGate (hConvGate := hConvGate)
    ∧ quiescent_ConvGateIdeal (hConvGateIdeal := hConvGateIdeal)
    ∧ quiescent_ConvGateRefIdeal (hConvGateRefIdeal := hConvGateRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_MixerOutLast (hMixerOutLast := hMixerOutLast)
    ∧ quiescent_MixerOutLastIdeal (hMixerOutLastIdeal := hMixerOutLastIdeal)
    ∧ quiescent_MixerOutLastRefIdeal (hMixerOutLastRefIdeal := hMixerOutLastRefIdeal)
    ∧ quiescent_FfnInLast (hFfnInLast := hFfnInLast)
    ∧ quiescent_FfnInLastIdeal (hFfnInLastIdeal := hFfnInLastIdeal)
    ∧ quiescent_FfnInLastRefIdeal (hFfnInLastRefIdeal := hFfnInLastRefIdeal)
    ∧ quiescent_FfnOutLast (hFfnOutLast := hFfnOutLast)
    ∧ quiescent_FfnOutLastIdeal (hFfnOutLastIdeal := hFfnOutLastIdeal)
    ∧ quiescent_FfnOutLastRefIdeal (hFfnOutLastRefIdeal := hFfnOutLastRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ preserves_MlaAttn_MlaAttnIdeal
    ∧ algebraic_MlaAttnIdeal_MlaAttnRefIdeal_pre_finite (hMlaAttnIdeal := hMlaAttnIdeal) (hMlaAttnRefIdeal := hMlaAttnRefIdeal) (hPre_finite := hPre_finite)
    ∧ preserves_FfnIn_FfnInIdeal
    ∧ algebraic_FfnInIdeal_FfnInRefIdeal (hFfnInIdeal := hFfnInIdeal) (hFfnInRefIdeal := hFfnInRefIdeal)
    ∧ preserves_NaQkv_NaQkvIdeal
    ∧ algebraic_NaQkvIdeal_NaQkvRefIdeal (hNaQkvIdeal := hNaQkvIdeal) (hNaQkvRefIdeal := hNaQkvRefIdeal)
    ∧ preserves_MlaIn_MlaInIdeal
    ∧ algebraic_MlaInIdeal_MlaInRefIdeal (hMlaInIdeal := hMlaInIdeal) (hMlaInRefIdeal := hMlaInRefIdeal)
    ∧ preserves_SguIn_SguInIdeal
    ∧ algebraic_SguInIdeal_SguInRefIdeal (hSguInIdeal := hSguInIdeal) (hSguInRefIdeal := hSguInRefIdeal)
    ∧ preserves_MixerOut_MixerOutIdeal
    ∧ algebraic_MixerOutIdeal_MixerOutRefIdeal (hMixerOutIdeal := hMixerOutIdeal) (hMixerOutRefIdeal := hMixerOutRefIdeal)
    ∧ preserves_ConvGate_ConvGateIdeal
    ∧ algebraic_ConvGateIdeal_ConvGateRefIdeal (hConvGateIdeal := hConvGateIdeal) (hConvGateRefIdeal := hConvGateRefIdeal)
    ∧ preserves_FfnOut_FfnOutIdeal
    ∧ algebraic_FfnOutIdeal_FfnOutRefIdeal (hFfnOutIdeal := hFfnOutIdeal) (hFfnOutRefIdeal := hFfnOutRefIdeal)
    ∧ preserves_MixerOutLast_MixerOutLastIdeal
    ∧ algebraic_MixerOutLastIdeal_MixerOutLastRefIdeal (hMixerOutLastIdeal := hMixerOutLastIdeal) (hMixerOutLastRefIdeal := hMixerOutLastRefIdeal)
    ∧ preserves_FfnInLast_FfnInLastIdeal
    ∧ algebraic_FfnInLastIdeal_FfnInLastRefIdeal (hFfnInLastIdeal := hFfnInLastIdeal) (hFfnInLastRefIdeal := hFfnInLastRefIdeal)
    ∧ preserves_FfnOutLast_FfnOutLastIdeal
    ∧ algebraic_FfnOutLastIdeal_FfnOutLastRefIdeal (hFfnOutLastIdeal := hFfnOutLastIdeal) (hFfnOutLastRefIdeal := hFfnOutLastRefIdeal)
    ∧ preserves_FinalNorm_FinalNormIdeal
    ∧ algebraic_FinalNormIdeal_FinalNormRefIdeal (hFinalNormIdeal := hFinalNormIdeal) (hFinalNormRefIdeal := hFinalNormRefIdeal)
-- ==== Pre_finite.lean ====
abbrev S9216x4096 : Shape := ⟨2, ![9216, 4096]⟩
abbrev S9216x128 : Shape := ⟨2, ![9216, 128]⟩
abbrev S_ : Shape := ⟨0, ![]⟩

class Facts : Prop where
  bcast_S_S9216x4096 : S_.BroadcastsInDim S9216x4096 (![] : Fin 0 → Fin S9216x4096.rank)
  bcast_S_S9216x128 : S_.BroadcastsInDim S9216x128 (![] : Fin 0 → Fin S9216x128.rank)

variable [Facts]

def fn {F : FTy → Type} [FloatOps F] (main_arg0 : FVec F S9216x4096 .bf16) (main_arg1 : FVec F S9216x4096 .bf16) (main_arg2 : FVec F S9216x128 .bf16) : IVec S9216x4096 1 × IVec S9216x4096 1 × IVec S9216x128 1 :=
  let main_v0 : FVec F S9216x4096 .bf16 := Host.absf main_arg0
  let main_cst : FVec F S_ .bf16 := constant S_ .bf16 0x7F80#16
  let main_v1 : FVec F S9216x4096 .bf16 := broadcastInDim S9216x4096 ![] bcast_S_S9216x4096 main_cst
  let main_v2 : IVec S9216x4096 1 := cmpf .olt main_v0 main_v1
  let main_v3 : FVec F S9216x4096 .bf16 := Host.absf main_arg1
  let main_cst_0 : FVec F S_ .bf16 := constant S_ .bf16 0x7F80#16
  let main_v4 : FVec F S9216x4096 .bf16 := broadcastInDim S9216x4096 ![] bcast_S_S9216x4096 main_cst_0
  let main_v5 : IVec S9216x4096 1 := cmpf .olt main_v3 main_v4
  let main_v6 : FVec F S9216x128 .bf16 := Host.absf main_arg2
  let main_cst_1 : FVec F S_ .bf16 := constant S_ .bf16 0x7F80#16
  let main_v7 : FVec F S9216x128 .bf16 := broadcastInDim S9216x128 ![] bcast_S_S9216x128 main_cst_1
  let main_v8 : IVec S9216x128 1 := cmpf .olt main_v6 main_v7
  (main_v2, main_v5, main_v8)
-- ==== MlaAttn.lean ====
abbrev S9216x4096 : Shape := ⟨2, ![9216, 4096]⟩
abbrev S9216x128 : Shape := ⟨2, ![9216, 128]⟩
abbrev S9216x2048 : Shape := ⟨2, ![9216, 2048]⟩
abbrev S256x256 : Shape := ⟨2, ![256, 256]⟩
abbrev S2048x128 : Shape := ⟨2, ![2048, 128]⟩
abbrev S256x128 : Shape := ⟨2, ![256, 128]⟩
abbrev S2304x256 : Shape := ⟨2, ![2304, 256]⟩
abbrev S256x2304 : Shape := ⟨2, ![256, 2304]⟩
abbrev S256 : Shape := ⟨1, ![256]⟩
abbrev S256x1 : Shape := ⟨2, ![256, 1]⟩
abbrev S256x2048 : Shape := ⟨2, ![256, 2048]⟩

abbrev nBuf : Space → Nat
  | .hbm => 4
  | .vmem => 17
  | .smem => 0
  | _ => 0

abbrev bufTy : (tb : Table) → Fin (tcTables nBuf tb) → BufTy
  | .hbm, ⟨0, _⟩ => ⟨S9216x4096, .bf16⟩
  | .hbm, ⟨1, _⟩ => ⟨S9216x4096, .bf16⟩
  | .hbm, ⟨2, _⟩ => ⟨S9216x128, .bf16⟩
  | .hbm, ⟨3, _⟩ => ⟨S9216x2048, .bf16⟩
  | .local _ .vmem, ⟨0, _⟩ => ⟨S256x256, .bf16⟩
  | .local _ .vmem, ⟨1, _⟩ => ⟨S256x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S2304x256, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 16, 9], ![false, false, false]⟩

def k0_cond2 (i : grid0.Coords) : BitVec 1 :=
  let arg2 : BitVec 32 := BitVec.ofNat 32 (i 2).val
  let c8_i32 : BitVec 32 := 8#32
  let v4 : BitVec 1 := Scalar.cmpi .slt arg2 c8_i32
  let v5 : BitVec 32 := Scalar.extui v4
  let c0_i32_2 : BitVec 32 := 0#32
  let v6 : BitVec 1 := Scalar.cmpi .ne v5 c0_i32_2
  v6

def k0_cond3 (i : grid0.Coords) : BitVec 1 :=
  let arg2 : BitVec 32 := BitVec.ofNat 32 (i 2).val
  let c8_i32_3 : BitVec 32 := 8#32
  let v7 : BitVec 1 := Scalar.cmpi .sge arg2 c8_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c32_i32 : BitVec 32 := 32#32
  let v3 : BitVec 32 := Scalar.addi c32_i32 arg0
  let v4 : BitVec 32 := Scalar.select v0 v2 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c2_i32 : BitVec 32 := 2#32
  let v1 : BitVec 32 := Scalar.muli c2_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c2_i32 : BitVec 32 := 2#32
  let v1 : BitVec 32 := Scalar.muli c2_i32 arg1
  let c1_i32 : BitVec 32 := 1#32
  let v2 : BitVec 32 := Scalar.addi v1 c1_i32
  let c0_i32 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c32_i32 : BitVec 32 := 32#32
  let v3 : BitVec 32 := Scalar.addi c32_i32 arg0
  let v4 : BitVec 32 := Scalar.select v0 v2 v3
  let c0_i32 : BitVec 32 := 0#32
  ![v4.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== MlaAttnRefIdeal.lean ====
abbrev S9216x4096 : Shape := ⟨2, ![9216, 4096]⟩
abbrev S9216x128 : Shape := ⟨2, ![9216, 128]⟩
abbrev S8192x4096 : Shape := ⟨2, ![8192, 4096]⟩
abbrev S4x2048x4096 : Shape := ⟨3, ![4, 2048, 4096]⟩
abbrev S4x2048x16x256 : Shape := ⟨4, ![4, 2048, 16, 256]⟩
abbrev S4x16x2048x256 : Shape := ⟨4, ![4, 16, 2048, 256]⟩
abbrev S4x16x2048x128 : Shape := ⟨4, ![4, 16, 2048, 128]⟩
abbrev S1024x4096 : Shape := ⟨2, ![1024, 4096]⟩
abbrev S4x256x4096 : Shape := ⟨3, ![4, 256, 4096]⟩
abbrev S4x256x16x256 : Shape := ⟨4, ![4, 256, 16, 256]⟩
abbrev S4x16x256x256 : Shape := ⟨4, ![4, 16, 256, 256]⟩
abbrev S4x16x256x128 : Shape := ⟨4, ![4, 16, 256, 128]⟩
abbrev S8192x128 : Shape := ⟨2, ![8192, 128]⟩
abbrev S4x2048x128 : Shape := ⟨3, ![4, 2048, 128]⟩
abbrev S1024x128 : Shape := ⟨2, ![1024, 128]⟩
abbrev S4x256x128 : Shape := ⟨3, ![4, 256, 128]⟩
abbrev S4x16x2304x128 : Shape := ⟨4, ![4, 16, 2304, 128]⟩
abbrev S4x2304x128 : Shape := ⟨3, ![4, 2304, 128]⟩
abbrev S4x16x2048x2304 : Shape := ⟨4, ![4, 16, 2048, 2304]⟩
abbrev S_ : Shape := ⟨0, ![]⟩
abbrev S4x16x2048 : Shape := ⟨3, ![4, 16, 2048]⟩
abbrev S4x16x2048x1 : Shape := ⟨4, ![4, 16, 2048, 1]⟩
abbrev S4x16x256 : Shape := ⟨3, ![4, 16, 256]⟩
abbrev S4x16x256x1 : Shape := ⟨4, ![4, 16, 256, 1]⟩
abbrev S4x2048x16x128 : Shape := ⟨4, ![4, 2048, 16, 128]⟩
abbrev S4x2048x2048 : Shape := ⟨3, ![4, 2048, 2048]⟩
abbrev S4x256x16x128 : Shape := ⟨4, ![4, 256, 16, 128]⟩
abbrev S4x256x2048 : Shape := ⟨3, ![4, 256, 2048]⟩
abbrev S8192x2048 : Shape := ⟨2, ![8192, 2048]⟩
abbrev S1024x2048 : Shape := ⟨2, ![1024, 2048]⟩
abbrev S9216x2048 : Shape := ⟨2, ![9216, 2048]⟩

abbrev nBuf : Space → Nat
  | .hbm => 87
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S9216x4096, .bf16⟩
  | .hbm, ⟨2, _⟩ => ⟨S9216x128, .bf16⟩
  | .hbm, ⟨3, _⟩ => ⟨S9216x4096, .f32⟩
  | .hbm, ⟨4, _⟩ => ⟨S9216x4096, .f32⟩
  | .hbm, ⟨5, _⟩ => ⟨S9216x128, .f32⟩
  | .hbm, ⟨6, _⟩ => ⟨S8192x4096, .f32⟩
  | .hbm, ⟨7, _⟩ => ⟨S4x2048x4096, .f32⟩
  | .hbm, ⟨8, _⟩ => ⟨S4x2048x16x256, .f32⟩
  | .hbm, ⟨9, _⟩ => ⟨S4x16x2048x256, .f32⟩
  | .hbm, ⟨10, _⟩ => ⟨S4x16x2048x128, .f32⟩
  | .hbm, ⟨11, _⟩ => ⟨S4x16x2048x128, .f32⟩
  | .hbm, ⟨12, _⟩ => ⟨S8192x4096, .f32⟩
  | .hbm, ⟨13, _⟩ => ⟨S4x2048x4096, .f32⟩
  | .hbm, ⟨14, _⟩ => ⟨S4x2048x16x256, .f32⟩
  | .hbm, ⟨15, _⟩ => ⟨S4x16x2048x256, .f32⟩
  | .hbm, ⟨16, _⟩ => ⟨S4x16x2048x128, .f32⟩
  | .hbm, ⟨17, _⟩ => ⟨S4x16x2048x128, .f32⟩
  | .hbm, ⟨18, _⟩ => ⟨S1024x4096, .f32⟩
  | .hbm, ⟨19, _⟩ => ⟨S4x256x4096, .f32⟩
  | .hbm, ⟨20, _⟩ => ⟨S4x256x16x256, .f32⟩
  | .hbm, ⟨21, _⟩ => ⟨S4x16x256x256, .f32⟩
  | .hbm, ⟨22, _⟩ => ⟨S4x16x256x128, .f32⟩
  | .hbm, ⟨23, _⟩ => ⟨S4x16x256x128, .f32⟩
  | .hbm, ⟨24, _⟩ => ⟨S1024x4096, .f32⟩
  | .hbm, ⟨25, _⟩ => ⟨S4x256x4096, .f32⟩
  | .hbm, ⟨26, _⟩ => ⟨S4x256x16x256, .f32⟩
  | .hbm, ⟨27, _⟩ => ⟨S4x16x256x256, .f32⟩
  | .hbm, ⟨28, _⟩ => ⟨S4x16x256x128, .f32⟩
  | .hbm, ⟨29, _⟩ => ⟨S4x16x256x128, .f32⟩
  | .hbm, ⟨30, _⟩ => ⟨S8192x128, .f32⟩
  | .hbm, ⟨31, _⟩ => ⟨S4x2048x128, .f32⟩
  | .hbm, ⟨32, _⟩ => ⟨S1024x128, .f32⟩
  | .hbm, ⟨33, _⟩ => ⟨S4x256x128, .f32⟩
  | .hbm, ⟨34, _⟩ => ⟨S4x16x2304x128, .f32⟩
  | .hbm, ⟨35, _⟩ => ⟨S4x2304x128, .f32⟩
  | .hbm, ⟨36, _⟩ => ⟨S4x16x2304x128, .f32⟩
  | .hbm, ⟨37, _⟩ => ⟨S4x16x2048x2304, .f32⟩
  | .hbm, ⟨38, _⟩ => ⟨S4x16x2048x2304, .f32⟩
  | .hbm, ⟨39, _⟩ => ⟨S4x16x2048x2304, .f32⟩
  | .hbm, ⟨40, _⟩ => ⟨S_, .f32⟩
  | .hbm, ⟨41, _⟩ => ⟨S4x16x2048x2304, .f32⟩
  | .hbm, ⟨42, _⟩ => ⟨S4x16x2048x2304, .f32⟩
  | .hbm, ⟨43, _⟩ => ⟨S_, .f32⟩
  | .hbm, ⟨44, _⟩ => ⟨S4x16x2048, .f32⟩
  | .hbm, ⟨45, _⟩ => ⟨S_, .f32⟩
  | .hbm, ⟨46, _⟩ => ⟨S4x16x2048, .f32⟩
  | .hbm, ⟨47, _⟩ => ⟨S4x16x2048, .f32⟩
  | .hbm, ⟨48, _⟩ => ⟨S4x16x2048x1, .f32⟩
  | .hbm, ⟨49, _⟩ => ⟨S4x16x2048x2304, .f32⟩
  | .hbm, ⟨50, _⟩ => ⟨S4x16x2048x2304, .f32⟩
  | .hbm, ⟨51, _⟩ => ⟨S4x16x2048x2304, .f32⟩
  | .hbm, ⟨52, _⟩ => ⟨S_, .f32⟩
  | .hbm, ⟨53, _⟩ => ⟨S4x16x2048, .f32⟩
  | .hbm, ⟨54, _⟩ => ⟨S4x16x2048x1, .f32⟩
  | .hbm, ⟨55, _⟩ => ⟨S4x16x2048x2304, .f32⟩
  | .hbm, ⟨56, _⟩ => ⟨S4x16x2048x2304, .f32⟩
  | .hbm, ⟨57, _⟩ => ⟨S4x16x2048x128, .f32⟩
  | .hbm, ⟨58, _⟩ => ⟨S4x16x256x256, .f32⟩
  | .hbm, ⟨59, _⟩ => ⟨S4x16x256x256, .f32⟩
  | .hbm, ⟨60, _⟩ => ⟨S4x16x256x256, .f32⟩
  | .hbm, ⟨61, _⟩ => ⟨S_, .f32⟩
  | .hbm, ⟨62, _⟩ => ⟨S4x16x256x256, .f32⟩
  | .hbm, ⟨63, _⟩ => ⟨S4x16x256x256, .f32⟩
  | .hbm, ⟨64, _⟩ => ⟨S_, .f32⟩
  | .hbm, ⟨65, _⟩ => ⟨S4x16x256, .f32⟩
  | .hbm, ⟨66, _⟩ => ⟨S_, .f32⟩
  | .hbm, ⟨67, _⟩ => ⟨S4x16x256, .f32⟩
  | .hbm, ⟨68, _⟩ => ⟨S4x16x256, .f32⟩
  | .hbm, ⟨69, _⟩ => ⟨S4x16x256x1, .f32⟩
  | .hbm, ⟨70, _⟩ => ⟨S4x16x256x256, .f32⟩
  | .hbm, ⟨71, _⟩ => ⟨S4x16x256x256, .f32⟩
  | .hbm, ⟨72, _⟩ => ⟨S4x16x256x256, .f32⟩
  | .hbm, ⟨73, _⟩ => ⟨S_, .f32⟩
  | .hbm, ⟨74, _⟩ => ⟨S4x16x256, .f32⟩
  | .hbm, ⟨75, _⟩ => ⟨S4x16x256x1, .f32⟩
  | .hbm, ⟨76, _⟩ => ⟨S4x16x256x256, .f32⟩
  | .hbm, ⟨77, _⟩ => ⟨S4x16x256x256, .f32⟩
  | .hbm, ⟨78, _⟩ => ⟨S4x16x256x128, .f32⟩
  | .hbm, ⟨79, _⟩ => ⟨S4x2048x16x128, .f32⟩
  | .hbm, ⟨80, _⟩ => ⟨S4x2048x2048, .f32⟩
  | .hbm, ⟨81, _⟩ => ⟨S4x256x16x128, .f32⟩
  | .hbm, ⟨82, _⟩ => ⟨S4x256x2048, .f32⟩
  | .hbm, ⟨83, _⟩ => ⟨S8192x2048, .f32⟩
  | .hbm, ⟨84, _⟩ => ⟨S1024x2048, .f32⟩
  | .hbm, ⟨85, _⟩ => ⟨S9216x2048, .f32⟩
  | .hbm, ⟨86, _⟩ => ⟨S9216x2048, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_cst : Ref sig .tc := ⟨.hbm, 40, rfl⟩
abbrev main_v37 : Ref sig .tc := ⟨.hbm, 41, rfl⟩
abbrev main_v38 : Ref sig .tc := ⟨.hbm, 42, rfl⟩
abbrev main_cst_0 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_2 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_3 : Ref sig .tc := ⟨.hbm, 61, rfl⟩
abbrev main_v54 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩

abbrev nD : Nat := 1
abbrev τ : Topo := Topo.v7x

variable {F : FTy → Type} [FloatOps F]
-- ==== FfnIn.lean ====
abbrev S9216x2048 : Shape := ⟨2, ![9216, 2048]⟩
abbrev S2048 : Shape := ⟨1, ![2048]⟩
abbrev S8x1x12288 : Shape := ⟨3, ![8, 1, 12288]⟩
abbrev S2048x11264 : Shape := ⟨2, ![2048, 11264]⟩
abbrev S1x2048 : Shape := ⟨2, ![1, 2048]⟩
abbrev S9216x11264 : Shape := ⟨2, ![9216, 11264]⟩
abbrev S512x2048 : Shape := ⟨2, ![512, 2048]⟩
abbrev S1x1x2048 : Shape := ⟨3, ![1, 1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2048x11264, .f32⟩
  | .hbm, ⟨4, _⟩ => ⟨S2048x11264, .bf16⟩
  | .hbm, ⟨5, _⟩ => ⟨S1x2048, .f32⟩
  | .hbm, ⟨6, _⟩ => ⟨S9216x11264, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S512x512, .f32⟩
  | .local _ .vmem, ⟨10, _⟩ => ⟨S512x512, .f32⟩
  | .local _ .vmem, ⟨11, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c3_i32 : BitVec 32 := 3#32
  let c0_i32_6 : BitVec 32 := 0#32
  ![v17.toNat, c0_i32_5.toNat, c3_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c4_i32_6 : BitVec 32 := 4#32
  let c0_i32_7 : BitVec 32 := 0#32
  ![v17.toNat, c0_i32_5.toNat, c4_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S9216x2048 : Shape := ⟨2, ![9216, 2048]⟩
abbrev S2048 : Shape := ⟨1, ![2048]⟩
abbrev S8x1x12288 : Shape := ⟨3, ![8, 1, 12288]⟩
abbrev S2048x11264 : Shape := ⟨2, ![2048, 11264]⟩
abbrev S4x1x12288 : Shape := ⟨3, ![4, 1, 12288]⟩
abbrev S4x12288 : Shape := ⟨2, ![4, 12288]⟩
abbrev S4x2048 : Shape := ⟨2, ![4, 2048]⟩
abbrev S4x1x2048 : Shape := ⟨3, ![4, 1, 2048]⟩
abbrev S1x1x12288 : Shape := ⟨3, ![1, 1, 12288]⟩
abbrev S12288 : Shape := ⟨1, ![12288]⟩
abbrev S8192x2048 : Shape := ⟨2, ![8192, 2048]⟩
abbrev S4x2048x2048 : Shape := ⟨3, ![4, 2048, 2048]⟩
abbrev S_ : Shape := ⟨0, ![]⟩
abbrev S4x2048x1 : Shape := ⟨3, ![4, 2048, 1]⟩
abbrev S1x1x2048 : Shape := ⟨3, ![1, 1, 2048]⟩
abbrev S4x2048x11264 : Shape := ⟨3, ![4, 2048, 11264]⟩
abbrev S1024x2048 : Shape := ⟨2, ![1024, 2048]⟩
abbrev S4x256x2048 : Shape := ⟨3, ![4, 256, 2048]⟩
abbrev S4x256 : Shape := ⟨2, ![4, 256]⟩
abbrev S4x256x1 : Shape := ⟨3, ![4, 256, 1]⟩
abbrev S4x256x11264 : Shape := ⟨3, ![4, 256, 11264]⟩
abbrev S8192x11264 : Shape := ⟨2, ![8192, 11264]⟩
abbrev S1024x11264 : Shape := ⟨2, ![1024, 11264]⟩
abbrev S9216x11264 : Shape := ⟨2, ![9216, 11264]⟩

abbrev nBuf : Space → Nat
  | .hbm => 83
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2048x11264, .f32⟩
  | .hbm, ⟨4, _⟩ => ⟨S4x1x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S1x1x12288, .f32⟩
  | .hbm, ⟨19, _⟩ => ⟨S12288, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S8192x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S1x1x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x1x2048, .f32⟩
  | .hbm, ⟨46, _⟩ => ⟨S4x1x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S4x2048x11264, .f32⟩
  | .hbm, ⟨52, _⟩ => ⟨S1024x2048, .f32⟩
  | .hbm, ⟨53, _⟩ => ⟨S4x256x2048, .f32⟩
  | .hbm, ⟨54, _⟩ => ⟨S4x256x2048, .f32⟩
  | .hbm, ⟨55, _⟩ => ⟨S_, .f32⟩
  | .hbm, ⟨56, _⟩ => ⟨S4x256, .f32⟩
  | .hbm, ⟨57, _⟩ => ⟨S4x256x1, .f32⟩
  | .hbm, ⟨58, _⟩ => ⟨S_, .f32⟩
  | .hbm, ⟨59, _⟩ => ⟨S4x256x1, .f32⟩
  | .hbm, ⟨60, _⟩ => ⟨S4x256x1, .f32⟩
  | .hbm, ⟨61, _⟩ => ⟨S_, .f32⟩
  | .hbm, ⟨62, _⟩ => ⟨S4x256x1, .f32⟩
  | .hbm, ⟨63, _⟩ => ⟨S4x256x1, .f32⟩
  | .hbm, ⟨64, _⟩ => ⟨S4x256x1, .f32⟩
  | .hbm, ⟨65, _⟩ => ⟨S4x256x2048, .f32⟩
  | .hbm, ⟨66, _⟩ => ⟨S4x256x2048, .f32⟩
  | .hbm, ⟨67, _⟩ => ⟨S1x1x2048, .f32⟩
  | .hbm, ⟨68, _⟩ => ⟨S4x256x2048, .f32⟩
  | .hbm, ⟨69, _⟩ => ⟨S4x256x2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S1x1x2048, .f32⟩
  | .hbm, ⟨74, _⟩ => ⟨S4x256x2048, .f32⟩
  | .hbm, ⟨75, _⟩ => ⟨S4x256x2048, .f32⟩
  | .hbm, ⟨76, _⟩ => ⟨S1x1x2048, .f32⟩
  | .hbm, ⟨77, _⟩ => ⟨S4x256x2048, .f32⟩
  | .hbm, ⟨78, _⟩ => ⟨S4x256x2048, .f32⟩
  | .hbm, ⟨79, _⟩ => ⟨S4x256x11264, .f32⟩
  | .hbm, ⟨80, _⟩ => ⟨S8192x11264, .f32⟩
  | .hbm, ⟨81, _⟩ => ⟨S1024x11264, .f32⟩
  | .hbm, ⟨82, _⟩ => ⟨S9216x11264, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩

abbrev nD : Nat := 1
abbrev τ : Topo := Topo.v7x

variable {F : FTy → Type} [FloatOps F]
-- ==== NaQkv.lean ====
abbrev S9216x2048 : Shape := ⟨2, ![9216, 2048]⟩
abbrev S2048 : Shape := ⟨1, ![2048]⟩
abbrev S8x1x12288 : Shape := ⟨3, ![8, 1, 12288]⟩
abbrev S2048x6144 : Shape := ⟨2, ![2048, 6144]⟩
abbrev S1x2048 : Shape := ⟨2, ![1, 2048]⟩
abbrev S9216x6144 : Shape := ⟨2, ![9216, 6144]⟩
abbrev S512x2048 : Shape := ⟨2, ![512, 2048]⟩
abbrev S1x1x2048 : Shape := ⟨3, ![1, 1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2048x6144, .f32⟩
  | .hbm, ⟨4, _⟩ => ⟨S2048x6144, .bf16⟩
  | .hbm, ⟨5, _⟩ => ⟨S1x2048, .f32⟩
  | .hbm, ⟨6, _⟩ => ⟨S9216x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S512x512, .bf16⟩
  | .local _ .vmem, ⟨10, _⟩ => ⟨S512x512, .bf16⟩
  | .local _ .vmem, ⟨11, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c1_i32_6 : BitVec 32 := 1#32
  let c0_i32_7 : BitVec 32 := 0#32
  ![v17.toNat, c0_i32_5.toNat, c1_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NaQkvRefIdeal.lean ====
abbrev S9216x2048 : Shape := ⟨2, ![9216, 2048]⟩
abbrev S2048 : Shape := ⟨1, ![2048]⟩
abbrev S8x1x12288 : Shape := ⟨3, ![8, 1, 12288]⟩
abbrev S2048x6144 : Shape := ⟨2, ![2048, 6144]⟩
abbrev S4x1x12288 : Shape := ⟨3, ![4, 1, 12288]⟩
abbrev S4x12288 : Shape := ⟨2, ![4, 12288]⟩
abbrev S4x2048 : Shape := ⟨2, ![4, 2048]⟩
abbrev S4x1x2048 : Shape := ⟨3, ![4, 1, 2048]⟩
abbrev S1x1x12288 : Shape := ⟨3, ![1, 1, 12288]⟩
abbrev S12288 : Shape := ⟨1, ![12288]⟩
abbrev S8192x2048 : Shape := ⟨2, ![8192, 2048]⟩
abbrev S4x2048x2048 : Shape := ⟨3, ![4, 2048, 2048]⟩
abbrev S_ : Shape := ⟨0, ![]⟩
abbrev S4x2048x1 : Shape := ⟨3, ![4, 2048, 1]⟩
abbrev S1x1x2048 : Shape := ⟨3, ![1, 1, 2048]⟩
abbrev S4x2048x6144 : Shape := ⟨3, ![4, 2048, 6144]⟩
abbrev S1024x2048 : Shape := ⟨2, ![1024, 2048]⟩
abbrev S4x256x2048 : Shape := ⟨3, ![4, 256, 2048]⟩
abbrev S4x256 : Shape := ⟨2, ![4, 256]⟩
abbrev S4x256x1 : Shape := ⟨3, ![4, 256, 1]⟩
abbrev S4x256x6144 : Shape := ⟨3, ![4, 256, 6144]⟩
abbrev S8192x6144 : Shape := ⟨2, ![8192, 6144]⟩
abbrev S1024x6144 : Shape := ⟨2, ![1024, 6144]⟩
abbrev S9216x6144 : Shape := ⟨2, ![9216, 6144]⟩

abbrev nBuf : Space → Nat
  | .hbm => 84
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2048x6144, .f32⟩
  | .hbm, ⟨4, _⟩ => ⟨S4x1x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S1x1x12288, .f32⟩
  | .hbm, ⟨19, _⟩ => ⟨S12288, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S8192x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S1x1x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x1x2048, .f32⟩
  | .hbm, ⟨46, _⟩ => ⟨S4x1x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S4x2048x6144, .f32⟩
  | .hbm, ⟨52, _⟩ => ⟨S1024x2048, .f32⟩
  | .hbm, ⟨53, _⟩ => ⟨S4x256x2048, .f32⟩
  | .hbm, ⟨54, _⟩ => ⟨S4x256x2048, .f32⟩
  | .hbm, ⟨55, _⟩ => ⟨S_, .f32⟩
  | .hbm, ⟨56, _⟩ => ⟨S4x256, .f32⟩
  | .hbm, ⟨57, _⟩ => ⟨S4x256x1, .f32⟩
  | .hbm, ⟨58, _⟩ => ⟨S_, .f32⟩
  | .hbm, ⟨59, _⟩ => ⟨S4x256x1, .f32⟩
  | .hbm, ⟨60, _⟩ => ⟨S4x256x1, .f32⟩
  | .hbm, ⟨61, _⟩ => ⟨S_, .f32⟩
  | .hbm, ⟨62, _⟩ => ⟨S4x256x1, .f32⟩
  | .hbm, ⟨63, _⟩ => ⟨S4x256x1, .f32⟩
  | .hbm, ⟨64, _⟩ => ⟨S4x256x1, .f32⟩
  | .hbm, ⟨65, _⟩ => ⟨S4x256x2048, .f32⟩
  | .hbm, ⟨66, _⟩ => ⟨S4x256x2048, .f32⟩
  | .hbm, ⟨67, _⟩ => ⟨S1x1x2048, .f32⟩
  | .hbm, ⟨68, _⟩ => ⟨S4x256x2048, .f32⟩
  | .hbm, ⟨69, _⟩ => ⟨S4x256x2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S1x1x2048, .f32⟩
  | .hbm, ⟨74, _⟩ => ⟨S4x256x2048, .f32⟩
  | .hbm, ⟨75, _⟩ => ⟨S4x256x2048, .f32⟩
  | .hbm, ⟨76, _⟩ => ⟨S1x1x2048, .f32⟩
  | .hbm, ⟨77, _⟩ => ⟨S4x256x2048, .f32⟩
  | .hbm, ⟨78, _⟩ => ⟨S4x256x2048, .f32⟩
  | .hbm, ⟨79, _⟩ => ⟨S4x256x6144, .f32⟩
  | .hbm, ⟨80, _⟩ => ⟨S8192x6144, .f32⟩
  | .hbm, ⟨81, _⟩ => ⟨S1024x6144, .f32⟩
  | .hbm, ⟨82, _⟩ => ⟨S9216x6144, .f32⟩
  | .hbm, ⟨83, _⟩ => ⟨S9216x6144, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩

abbrev nD : Nat := 1
abbrev τ : Topo := Topo.v7x

variable {F : FTy → Type} [FloatOps F]
-- ==== MlaIn.lean ====
abbrev S9216x2048 : Shape := ⟨2, ![9216, 2048]⟩
abbrev S2048 : Shape := ⟨1, ![2048]⟩
abbrev S8x1x12288 : Shape := ⟨3, ![8, 1, 12288]⟩
abbrev S2048x1280 : Shape := ⟨2, ![2048, 1280]⟩
abbrev S1x2048 : Shape := ⟨2, ![1, 2048]⟩
abbrev S9216x1280 : Shape := ⟨2, ![9216, 1280]⟩
abbrev S512x2048 : Shape := ⟨2, ![512, 2048]⟩
abbrev S1x1x2048 : Shape := ⟨3, ![1, 1, 2048]⟩
abbrev S2048x640 : Shape := ⟨2, ![2048, 640]⟩
abbrev S512x640 : Shape := ⟨2, ![512, 640]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2048x1280, .f32⟩
  | .hbm, ⟨4, _⟩ => ⟨S2048x1280, .bf16⟩
  | .hbm, ⟨5, _⟩ => ⟨S1x2048, .f32⟩
  | .hbm, ⟨6, _⟩ => ⟨S9216x1280, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x640, .bf16⟩
  | .local _ .vmem, ⟨8, _⟩ => ⟨S2048x640, .bf16⟩
  | .local _ .vmem, ⟨9, _⟩ => ⟨S512x640, .f32⟩
  | .local _ .vmem, ⟨10, _⟩ => ⟨S512x640, .f32⟩
  | .local _ .vmem, ⟨11, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c1_i32_6 : BitVec 32 := 1#32
  let c0_i32_7 : BitVec 32 := 0#32
  ![v17.toNat, c0_i32_5.toNat, c1_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaInRefIdeal.lean ====
abbrev S9216x2048 : Shape := ⟨2, ![9216, 2048]⟩
abbrev S2048 : Shape := ⟨1, ![2048]⟩
abbrev S8x1x12288 : Shape := ⟨3, ![8, 1, 12288]⟩
abbrev S2048x1280 : Shape := ⟨2, ![2048, 1280]⟩
abbrev S4x1x12288 : Shape := ⟨3, ![4, 1, 12288]⟩
abbrev S4x12288 : Shape := ⟨2, ![4, 12288]⟩
abbrev S4x2048 : Shape := ⟨2, ![4, 2048]⟩
abbrev S4x1x2048 : Shape := ⟨3, ![4, 1, 2048]⟩
abbrev S1x1x12288 : Shape := ⟨3, ![1, 1, 12288]⟩
abbrev S12288 : Shape := ⟨1, ![12288]⟩
abbrev S8192x2048 : Shape := ⟨2, ![8192, 2048]⟩
abbrev S4x2048x2048 : Shape := ⟨3, ![4, 2048, 2048]⟩
abbrev S_ : Shape := ⟨0, ![]⟩
abbrev S4x2048x1 : Shape := ⟨3, ![4, 2048, 1]⟩
abbrev S1x1x2048 : Shape := ⟨3, ![1, 1, 2048]⟩
abbrev S4x2048x1280 : Shape := ⟨3, ![4, 2048, 1280]⟩
abbrev S1024x2048 : Shape := ⟨2, ![1024, 2048]⟩
abbrev S4x256x2048 : Shape := ⟨3, ![4, 256, 2048]⟩
abbrev S4x256 : Shape := ⟨2, ![4, 256]⟩
abbrev S4x256x1 : Shape := ⟨3, ![4, 256, 1]⟩
abbrev S4x256x1280 : Shape := ⟨3, ![4, 256, 1280]⟩
abbrev S8192x1280 : Shape := ⟨2, ![8192, 1280]⟩
abbrev S1024x1280 : Shape := ⟨2, ![1024, 1280]⟩
abbrev S9216x1280 : Shape := ⟨2, ![9216, 1280]⟩

abbrev nBuf : Space → Nat
  | .hbm => 83
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2048x1280, .f32⟩
  | .hbm, ⟨4, _⟩ => ⟨S4x1x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S1x1x12288, .f32⟩
  | .hbm, ⟨19, _⟩ => ⟨S12288, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S8192x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S1x1x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x1x2048, .f32⟩
  | .hbm, ⟨46, _⟩ => ⟨S4x1x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S4x2048x1280, .f32⟩
  | .hbm, ⟨52, _⟩ => ⟨S1024x2048, .f32⟩
  | .hbm, ⟨53, _⟩ => ⟨S4x256x2048, .f32⟩
  | .hbm, ⟨54, _⟩ => ⟨S4x256x2048, .f32⟩
  | .hbm, ⟨55, _⟩ => ⟨S_, .f32⟩
  | .hbm, ⟨56, _⟩ => ⟨S4x256, .f32⟩
  | .hbm, ⟨57, _⟩ => ⟨S4x256x1, .f32⟩
  | .hbm, ⟨58, _⟩ => ⟨S_, .f32⟩
  | .hbm, ⟨59, _⟩ => ⟨S4x256x1, .f32⟩
  | .hbm, ⟨60, _⟩ => ⟨S4x256x1, .f32⟩
  | .hbm, ⟨61, _⟩ => ⟨S_, .f32⟩
  | .hbm, ⟨62, _⟩ => ⟨S4x256x1, .f32⟩
  | .hbm, ⟨63, _⟩ => ⟨S4x256x1, .f32⟩
  | .hbm, ⟨64, _⟩ => ⟨S4x256x1, .f32⟩
  | .hbm, ⟨65, _⟩ => ⟨S4x256x2048, .f32⟩
  | .hbm, ⟨66, _⟩ => ⟨S4x256x2048, .f32⟩
  | .hbm, ⟨67, _⟩ => ⟨S1x1x2048, .f32⟩
  | .hbm, ⟨68, _⟩ => ⟨S4x256x2048, .f32⟩
  | .hbm, ⟨69, _⟩ => ⟨S4x256x2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S1x1x2048, .f32⟩
  | .hbm, ⟨74, _⟩ => ⟨S4x256x2048, .f32⟩
  | .hbm, ⟨75, _⟩ => ⟨S4x256x2048, .f32⟩
  | .hbm, ⟨76, _⟩ => ⟨S1x1x2048, .f32⟩
  | .hbm, ⟨77, _⟩ => ⟨S4x256x2048, .f32⟩
  | .hbm, ⟨78, _⟩ => ⟨S4x256x2048, .f32⟩
  | .hbm, ⟨79, _⟩ => ⟨S4x256x1280, .f32⟩
  | .hbm, ⟨80, _⟩ => ⟨S8192x1280, .f32⟩
  | .hbm, ⟨81, _⟩ => ⟨S1024x1280, .f32⟩
  | .hbm, ⟨82, _⟩ => ⟨S9216x1280, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩

abbrev nD : Nat := 1
abbrev τ : Topo := Topo.v7x

variable {F : FTy → Type} [FloatOps F]
-- ==== SguIn.lean ====
abbrev S9216x2048 : Shape := ⟨2, ![9216, 2048]⟩
abbrev S2048 : Shape := ⟨1, ![2048]⟩
abbrev S8x1x12288 : Shape := ⟨3, ![8, 1, 12288]⟩
abbrev S2048x4096 : Shape := ⟨2, ![2048, 4096]⟩
abbrev S4096 : Shape := ⟨1, ![4096]⟩
abbrev S1x2048 : Shape := ⟨2, ![1, 2048]⟩
abbrev S1x4096 : Shape := ⟨2, ![1, 4096]⟩
abbrev S9216x4096 : Shape := ⟨2, ![9216, 4096]⟩
abbrev S512x2048 : Shape := ⟨2, ![512, 2048]⟩
abbrev S1x1x2048 : Shape := ⟨3, ![1, 1, 2048]⟩
abbrev S2048x512 : Shape := ⟨2, ![2048, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2048x4096, .f32⟩
  | .hbm, ⟨4, _⟩ => ⟨S4096, .f32⟩
  | .hbm, ⟨5, _⟩ => ⟨S2048x4096, .bf16⟩
  | .hbm, ⟨6, _⟩ => ⟨S1x2048, .f32⟩
  | .hbm, ⟨7, _⟩ => ⟨S1x4096, .f32⟩
  | .hbm, ⟨8, _⟩ => ⟨S9216x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![18, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c1_i32_6 : BitVec 32 := 1#32
  let c0_i32_7 : BitVec 32 := 0#32
  ![v17.toNat, c0_i32_5.toNat, c1_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SguInRefIdeal.lean ====
abbrev S9216x2048 : Shape := ⟨2, ![9216, 2048]⟩
abbrev S2048 : Shape := ⟨1, ![2048]⟩
abbrev S8x1x12288 : Shape := ⟨3, ![8, 1, 12288]⟩
abbrev S2048x4096 : Shape := ⟨2, ![2048, 4096]⟩
abbrev S4096 : Shape := ⟨1, ![4096]⟩
abbrev S4x1x12288 : Shape := ⟨3, ![4, 1, 12288]⟩
abbrev S4x12288 : Shape := ⟨2, ![4, 12288]⟩
abbrev S4x2048 : Shape := ⟨2, ![4, 2048]⟩
abbrev S4x1x2048 : Shape := ⟨3, ![4, 1, 2048]⟩
abbrev S1x1x12288 : Shape := ⟨3, ![1, 1, 12288]⟩
abbrev S12288 : Shape := ⟨1, ![12288]⟩
abbrev S8192x2048 : Shape := ⟨2, ![8192, 2048]⟩
abbrev S4x2048x2048 : Shape := ⟨3, ![4, 2048, 2048]⟩
abbrev S_ : Shape := ⟨0, ![]⟩
abbrev S4x2048x1 : Shape := ⟨3, ![4, 2048, 1]⟩
abbrev S1x1x2048 : Shape := ⟨3, ![1, 1, 2048]⟩
abbrev S4x2048x4096 : Shape := ⟨3, ![4, 2048, 4096]⟩
abbrev S1x1x4096 : Shape := ⟨3, ![1, 1, 4096]⟩
abbrev S1024x2048 : Shape := ⟨2, ![1024, 2048]⟩
abbrev S4x256x2048 : Shape := ⟨3, ![4, 256, 2048]⟩
abbrev S4x256 : Shape := ⟨2, ![4, 256]⟩
abbrev S4x256x1 : Shape := ⟨3, ![4, 256, 1]⟩
abbrev S4x256x4096 : Shape := ⟨3, ![4, 256, 4096]⟩
abbrev S8192x4096 : Shape := ⟨2, ![8192, 4096]⟩
abbrev S1024x4096 : Shape := ⟨2, ![1024, 4096]⟩
abbrev S9216x4096 : Shape := ⟨2, ![9216, 4096]⟩

abbrev nBuf : Space → Nat
  | .hbm => 108
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S8x1x12288, .f32⟩
  | .hbm, ⟨3, _⟩ => ⟨S2048x4096, .f32⟩
  | .hbm, ⟨4, _⟩ => ⟨S4096, .f32⟩
  | .hbm, ⟨5, _⟩ => ⟨S4x1x12288, .f32⟩
  | .hbm, ⟨6, _⟩ => ⟨S4x12288, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S4x1x2048, .f32⟩
  | .hbm, ⟨19, _⟩ => ⟨S1x1x12288, .f32⟩
  | .hbm, ⟨20, _⟩ => ⟨S12288, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S8192x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S1x1x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x1x2048, .f32⟩
  | .hbm, ⟨47, _⟩ => ⟨S4x1x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S4x2048x4096, .f32⟩
  | .hbm, ⟨53, _⟩ => ⟨S1x1x4096, .f32⟩
  | .hbm, ⟨54, _⟩ => ⟨S4x2048x4096, .f32⟩
  | .hbm, ⟨55, _⟩ => ⟨S4x2048x4096, .f32⟩
  | .hbm, ⟨56, _⟩ => ⟨S_, .f32⟩
  | .hbm, ⟨57, _⟩ => ⟨S4x2048x4096, .f32⟩
  | .hbm, ⟨58, _⟩ => ⟨S4x2048x4096, .f32⟩
  | .hbm, ⟨59, _⟩ => ⟨S4x2048x4096, .f32⟩
  | .hbm, ⟨60, _⟩ => ⟨S_, .f32⟩
  | .hbm, ⟨61, _⟩ => ⟨S4x2048x4096, .f32⟩
  | .hbm, ⟨62, _⟩ => ⟨S4x2048x4096, .f32⟩
  | .hbm, ⟨63, _⟩ => ⟨S4x2048x4096, .f32⟩
  | .hbm, ⟨64, _⟩ => ⟨S4x2048x4096, .f32⟩
  | .hbm, ⟨65, _⟩ => ⟨S1024x2048, .f32⟩
  | .hbm, ⟨66, _⟩ => ⟨S4x256x2048, .f32⟩
  | .hbm, ⟨67, _⟩ => ⟨S4x256x2048, .f32⟩
  | .hbm, ⟨68, _⟩ => ⟨S_, .f32⟩
  | .hbm, ⟨69, _⟩ => ⟨S4x256, .f32⟩
  | .hbm, ⟨70, _⟩ => ⟨S4x256x1, .f32⟩
  | .hbm, ⟨71, _⟩ => ⟨S_, .f32⟩
  | .hbm, ⟨72, _⟩ => ⟨S4x256x1, .f32⟩
  | .hbm, ⟨73, _⟩ => ⟨S4x256x1, .f32⟩
  | .hbm, ⟨74, _⟩ => ⟨S_, .f32⟩
  | .hbm, ⟨75, _⟩ => ⟨S4x256x1, .f32⟩
  | .hbm, ⟨76, _⟩ => ⟨S4x256x1, .f32⟩
  | .hbm, ⟨77, _⟩ => ⟨S4x256x1, .f32⟩
  | .hbm, ⟨78, _⟩ => ⟨S4x256x2048, .f32⟩
  | .hbm, ⟨79, _⟩ => ⟨S4x256x2048, .f32⟩
  | .hbm, ⟨80, _⟩ => ⟨S1x1x2048, .f32⟩
  | .hbm, ⟨81, _⟩ => ⟨S4x256x2048, .f32⟩
  | .hbm, ⟨82, _⟩ => ⟨S4x256x2048, .f32⟩
  | .hbm, ⟨83, _⟩ => ⟨S_, .f32⟩
  | .hbm, ⟨84, _⟩ => ⟨S2048, .f32⟩
  | .hbm, ⟨85, _⟩ => ⟨S2048, .f32⟩
  | .hbm, ⟨86, _⟩ => ⟨S1x1x2048, .f32⟩
  | .hbm, ⟨87, _⟩ => ⟨S4x256x2048, .f32⟩
  | .hbm, ⟨88, _⟩ => ⟨S4x256x2048, .f32⟩
  | .hbm, ⟨89, _⟩ => ⟨S1x1x2048, .f32⟩
  | .hbm, ⟨90, _⟩ => ⟨S4x256x2048, .f32⟩
  | .hbm, ⟨91, _⟩ => ⟨S4x256x2048, .f32⟩
  | .hbm, ⟨92, _⟩ => ⟨S4x256x4096, .f32⟩
  | .hbm, ⟨93, _⟩ => ⟨S1x1x4096, .f32⟩
  | .hbm, ⟨94, _⟩ => ⟨S4x256x4096, .f32⟩
  | .hbm, ⟨95, _⟩ => ⟨S4x256x4096, .f32⟩
  | .hbm, ⟨96, _⟩ => ⟨S_, .f32⟩
  | .hbm, ⟨97, _⟩ => ⟨S4x256x4096, .f32⟩
  | .hbm, ⟨98, _⟩ => ⟨S4x256x4096, .f32⟩
  | .hbm, ⟨99, _⟩ => ⟨S4x256x4096, .f32⟩
  | .hbm, ⟨100, _⟩ => ⟨S_, .f32⟩
  | .hbm, ⟨101, _⟩ => ⟨S4x256x4096, .f32⟩
  | .hbm, ⟨102, _⟩ => ⟨S4x256x4096, .f32⟩
  | .hbm, ⟨103, _⟩ => ⟨S4x256x4096, .f32⟩
  | .hbm, ⟨104, _⟩ => ⟨S4x256x4096, .f32⟩
  | .hbm, ⟨105, _⟩ => ⟨S8192x4096, .f32⟩
  | .hbm, ⟨106, _⟩ => ⟨S1024x4096, .f32⟩
  | .hbm, ⟨107, _⟩ => ⟨S9216x4096, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_10 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩

abbrev nD : Nat := 1
abbrev τ : Topo := Topo.v7x

variable {F : FTy → Type} [FloatOps F]
-- ==== MixerOut.lean ====
abbrev S9216x2048 : Shape := ⟨2, ![9216, 2048]⟩
abbrev S2048x2048 : Shape := ⟨2, ![2048, 2048]⟩
abbrev S8x1x12288 : Shape := ⟨3, ![8, 1, 12288]⟩
abbrev S512x2048 : Shape := ⟨2, ![512, 2048]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S9216x2048, .f32⟩
  | .hbm, ⟨3, _⟩ => ⟨S8x1x12288, .f32⟩
  | .hbm, ⟨4, _⟩ => ⟨S2048x2048, .bf16⟩
  | .hbm, ⟨5, _⟩ => ⟨S9216x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![18, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c8_i32 : BitVec 32 := 8#32
  let v18 : BitVec 32 := Scalar.addi c8_i32 arg1
  let c0_i32_5 : BitVec 32 := 0#32
  let c0_i32_6 : BitVec 32 := 0#32
  ![v17.toNat, c0_i32_5.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixerOutRefIdeal.lean ====
abbrev S9216x2048 : Shape := ⟨2, ![9216, 2048]⟩
abbrev S2048x2048 : Shape := ⟨2, ![2048, 2048]⟩
abbrev S8x1x12288 : Shape := ⟨3, ![8, 1, 12288]⟩
abbrev S4x1x12288 : Shape := ⟨3, ![4, 1, 12288]⟩
abbrev S4x12288 : Shape := ⟨2, ![4, 12288]⟩
abbrev S4x2048 : Shape := ⟨2, ![4, 2048]⟩
abbrev S4x1x2048 : Shape := ⟨3, ![4, 1, 2048]⟩
abbrev S1x1x12288 : Shape := ⟨3, ![1, 1, 12288]⟩
abbrev S12288 : Shape := ⟨1, ![12288]⟩
abbrev S2048 : Shape := ⟨1, ![2048]⟩
abbrev S8192x2048 : Shape := ⟨2, ![8192, 2048]⟩
abbrev S4x2048x2048 : Shape := ⟨3, ![4, 2048, 2048]⟩
abbrev S1024x2048 : Shape := ⟨2, ![1024, 2048]⟩
abbrev S4x256x2048 : Shape := ⟨3, ![4, 256, 2048]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S9216x2048, .f32⟩
  | .hbm, ⟨3, _⟩ => ⟨S8x1x12288, .f32⟩
  | .hbm, ⟨4, _⟩ => ⟨S4x1x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S1x1x12288, .f32⟩
  | .hbm, ⟨19, _⟩ => ⟨S12288, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S9216x2048, .f32⟩
  | .hbm, ⟨27, _⟩ => ⟨S8192x2048, .f32⟩
  | .hbm, ⟨28, _⟩ => ⟨S4x2048x2048, .f32⟩
  | .hbm, ⟨29, _⟩ => ⟨S8192x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S1024x2048, .f32⟩
  | .hbm, ⟨36, _⟩ => ⟨S4x256x2048, .f32⟩
  | .hbm, ⟨37, _⟩ => ⟨S1024x2048, .f32⟩
  | .hbm, ⟨38, _⟩ => ⟨S4x256x2048, .f32⟩
  | .hbm, ⟨39, _⟩ => ⟨S4x256x2048, .f32⟩
  | .hbm, ⟨40, _⟩ => ⟨S1x1x2048, .f32⟩
  | .hbm, ⟨41, _⟩ => ⟨S4x256x2048, .f32⟩
  | .hbm, ⟨42, _⟩ => ⟨S4x256x2048, .f32⟩
  | .hbm, ⟨43, _⟩ => ⟨S4x256x2048, .f32⟩
  | .hbm, ⟨44, _⟩ => ⟨S8192x2048, .f32⟩
  | .hbm, ⟨45, _⟩ => ⟨S1024x2048, .f32⟩
  | .hbm, ⟨46, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩

abbrev nD : Nat := 1
abbrev τ : Topo := Topo.v7x

variable {F : FTy → Type} [FloatOps F]
-- ==== ConvGate.lean ====
abbrev S9216x11264 : Shape := ⟨2, ![9216, 11264]⟩
abbrev S3x11264 : Shape := ⟨2, ![3, 11264]⟩
abbrev S11264 : Shape := ⟨1, ![11264]⟩
abbrev S1x11264 : Shape := ⟨2, ![1, 11264]⟩
abbrev S9216x5632 : Shape := ⟨2, ![9216, 5632]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S512x1 : Shape := ⟨2, ![512, 1]⟩

abbrev nBuf : Space → Nat
  | .hbm => 5
  | .vmem => 22
  | .smem => 0
  | _ => 0

abbrev bufTy : (tb : Table) → Fin (tcTables nBuf tb) → BufTy
  | .hbm, ⟨0, _⟩ => ⟨S9216x11264, .f32⟩
  | .hbm, ⟨1, _⟩ => ⟨S3x11264, .f32⟩
  | .hbm, ⟨2, _⟩ => ⟨S11264, .f32⟩
  | .hbm, ⟨3, _⟩ => ⟨S1x11264, .f32⟩
  | .hbm, ⟨4, _⟩ => ⟨S9216x5632, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x512, .bf16⟩
  | .local _ .vmem, ⟨21, _⟩ => ⟨S512x512, .bf16⟩
  | _, _ => ⟨S9216x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![18, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg1 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1151_i32 : BitVec 32 := 1151#32
  let v2 : BitVec 32 := Scalar.minsi v1 c1151_i32
  let c0_i32 : BitVec 32 := 0#32
  ![v2.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1151_i32 : BitVec 32 := 1151#32
  let v2 : BitVec 32 := Scalar.minsi v1 c1151_i32
  let c11_i32 : BitVec 32 := 11#32
  let v3 : BitVec 32 := Scalar.addi arg1 c11_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvGateRefIdeal.lean ====
abbrev S9216x11264 : Shape := ⟨2, ![9216, 11264]⟩
abbrev S3x11264 : Shape := ⟨2, ![3, 11264]⟩
abbrev S11264 : Shape := ⟨1, ![11264]⟩
abbrev S8192x11264 : Shape := ⟨2, ![8192, 11264]⟩
abbrev S4x2048x11264 : Shape := ⟨3, ![4, 2048, 11264]⟩
abbrev S_ : Shape := ⟨0, ![]⟩
abbrev S4x2050x11264 : Shape := ⟨3, ![4, 2050, 11264]⟩
abbrev S1x11264 : Shape := ⟨2, ![1, 11264]⟩
abbrev S1x1x11264 : Shape := ⟨3, ![1, 1, 11264]⟩
abbrev S4x2048x5632 : Shape := ⟨3, ![4, 2048, 5632]⟩
abbrev S1024x11264 : Shape := ⟨2, ![1024, 11264]⟩
abbrev S4x256x11264 : Shape := ⟨3, ![4, 256, 11264]⟩
abbrev S4x258x11264 : Shape := ⟨3, ![4, 258, 11264]⟩
abbrev S4x256x5632 : Shape := ⟨3, ![4, 256, 5632]⟩
abbrev S8192x5632 : Shape := ⟨2, ![8192, 5632]⟩
abbrev S1024x5632 : Shape := ⟨2, ![1024, 5632]⟩
abbrev S9216x5632 : Shape := ⟨2, ![9216, 5632]⟩

abbrev nBuf : Space → Nat
  | .hbm => 93
  | .vmem => 0
  | .smem => 0
  | _ => 0

abbrev bufTy : (tb : Table) → Fin (tcTables nBuf tb) → BufTy
  | .hbm, ⟨0, _⟩ => ⟨S9216x11264, .f32⟩
  | .hbm, ⟨1, _⟩ => ⟨S3x11264, .f32⟩
  | .hbm, ⟨2, _⟩ => ⟨S11264, .f32⟩
  | .hbm, ⟨3, _⟩ => ⟨S8192x11264, .f32⟩
  | .hbm, ⟨4, _⟩ => ⟨S4x2048x11264, .f32⟩
  | .hbm, ⟨5, _⟩ => ⟨S_, .i32⟩
  | .hbm, ⟨6, _⟩ => ⟨S_, .f32⟩
  | .hbm, ⟨7, _⟩ => ⟨S4x2050x11264, .f32⟩
  | .hbm, ⟨8, _⟩ => ⟨S4x2048x11264, .f32⟩
  | .hbm, ⟨9, _⟩ => ⟨S1x11264, .f32⟩
  | .hbm, ⟨10, _⟩ => ⟨S11264, .f32⟩
  | .hbm, ⟨11, _⟩ => ⟨S1x1x11264, .f32⟩
  | .hbm, ⟨12, _⟩ => ⟨S4x2048x11264, .f32⟩
  | .hbm, ⟨13, _⟩ => ⟨S4x2048x11264, .f32⟩
  | .hbm, ⟨14, _⟩ => ⟨S_, .f32⟩
  | .hbm, ⟨15, _⟩ => ⟨S4x2048x11264, .f32⟩
  | .hbm, ⟨16, _⟩ => ⟨S4x2048x11264, .f32⟩
  | .hbm, ⟨17, _⟩ => ⟨S4x2048x11264, .f32⟩
  | .hbm, ⟨18, _⟩ => ⟨S1x11264, .f32⟩
  | .hbm, ⟨19, _⟩ => ⟨S11264, .f32⟩
  | .hbm, ⟨20, _⟩ => ⟨S1x1x11264, .f32⟩
  | .hbm, ⟨21, _⟩ => ⟨S4x2048x11264, .f32⟩
  | .hbm, ⟨22, _⟩ => ⟨S4x2048x11264, .f32⟩
  | .hbm, ⟨23, _⟩ => ⟨S4x2048x11264, .f32⟩
  | .hbm, ⟨24, _⟩ => ⟨S4x2048x11264, .f32⟩
  | .hbm, ⟨25, _⟩ => ⟨S1x11264, .f32⟩
  | .hbm, ⟨26, _⟩ => ⟨S11264, .f32⟩
  | .hbm, ⟨27, _⟩ => ⟨S1x1x11264, .f32⟩
  | .hbm, ⟨28, _⟩ => ⟨S4x2048x11264, .f32⟩
  | .hbm, ⟨29, _⟩ => ⟨S4x2048x11264, .f32⟩
  | .hbm, ⟨30, _⟩ => ⟨S4x2048x11264, .f32⟩
  | .hbm, ⟨31, _⟩ => ⟨S1x1x11264, .f32⟩
  | .hbm, ⟨32, _⟩ => ⟨S4x2048x11264, .f32⟩
  | .hbm, ⟨33, _⟩ => ⟨S4x2048x11264, .f32⟩
  | .hbm, ⟨34, _⟩ => ⟨S4x2048x5632, .f32⟩
  | .hbm, ⟨35, _⟩ => ⟨S4x2048x5632, .f32⟩
  | .hbm, ⟨36, _⟩ => ⟨S4x2048x5632, .f32⟩
  | .hbm, ⟨37, _⟩ => ⟨S4x2048x5632, .f32⟩
  | .hbm, ⟨38, _⟩ => ⟨S_, .f32⟩
  | .hbm, ⟨39, _⟩ => ⟨S4x2048x5632, .f32⟩
  | .hbm, ⟨40, _⟩ => ⟨S4x2048x5632, .f32⟩
  | .hbm, ⟨41, _⟩ => ⟨S_, .f32⟩
  | .hbm, ⟨42, _⟩ => ⟨S4x2048x5632, .f32⟩
  | .hbm, ⟨43, _⟩ => ⟨S4x2048x5632, .f32⟩
  | .hbm, ⟨44, _⟩ => ⟨S4x2048x5632, .f32⟩
  | .hbm, ⟨45, _⟩ => ⟨S4x2048x5632, .f32⟩
  | .hbm, ⟨46, _⟩ => ⟨S1024x11264, .f32⟩
  | .hbm, ⟨47, _⟩ => ⟨S4x256x11264, .f32⟩
  | .hbm, ⟨48, _⟩ => ⟨S_, .i32⟩
  | .hbm, ⟨49, _⟩ => ⟨S_, .f32⟩
  | .hbm, ⟨50, _⟩ => ⟨S4x258x11264, .f32⟩
  | .hbm, ⟨51, _⟩ => ⟨S4x256x11264, .f32⟩
  | .hbm, ⟨52, _⟩ => ⟨S1x11264, .f32⟩
  | .hbm, ⟨53, _⟩ => ⟨S11264, .f32⟩
  | .hbm, ⟨54, _⟩ => ⟨S1x1x11264, .f32⟩
  | .hbm, ⟨55, _⟩ => ⟨S4x256x11264, .f32⟩
  | .hbm, ⟨56, _⟩ => ⟨S4x256x11264, .f32⟩
  | .hbm, ⟨57, _⟩ => ⟨S_, .f32⟩
  | .hbm, ⟨58, _⟩ => ⟨S4x256x11264, .f32⟩
  | .hbm, ⟨59, _⟩ => ⟨S4x256x11264, .f32⟩
  | .hbm, ⟨60, _⟩ => ⟨S4x256x11264, .f32⟩
  | .hbm, ⟨61, _⟩ => ⟨S1x11264, .f32⟩
  | .hbm, ⟨62, _⟩ => ⟨S11264, .f32⟩
  | .hbm, ⟨63, _⟩ => ⟨S1x1x11264, .f32⟩
  | .hbm, ⟨64, _⟩ => ⟨S4x256x11264, .f32⟩
  | .hbm, ⟨65, _⟩ => ⟨S4x256x11264, .f32⟩
  | .hbm, ⟨66, _⟩ => ⟨S4x256x11264, .f32⟩
  | .hbm, ⟨67, _⟩ => ⟨S4x256x11264, .f32⟩
  | .hbm, ⟨68, _⟩ => ⟨S1x11264, .f32⟩
  | .hbm, ⟨69, _⟩ => ⟨S11264, .f32⟩
  | .hbm, ⟨70, _⟩ => ⟨S1x1x11264, .f32⟩
  | .hbm, ⟨71, _⟩ => ⟨S4x256x11264, .f32⟩
  | .hbm, ⟨72, _⟩ => ⟨S4x256x11264, .f32⟩
  | .hbm, ⟨73, _⟩ => ⟨S4x256x11264, .f32⟩
  | .hbm, ⟨74, _⟩ => ⟨S1x1x11264, .f32⟩
  | .hbm, ⟨75, _⟩ => ⟨S4x256x11264, .f32⟩
  | .hbm, ⟨76, _⟩ => ⟨S4x256x11264, .f32⟩
  | .hbm, ⟨77, _⟩ => ⟨S4x256x5632, .f32⟩
  | .hbm, ⟨78, _⟩ => ⟨S4x256x5632, .f32⟩
  | .hbm, ⟨79, _⟩ => ⟨S4x256x5632, .f32⟩
  | .hbm, ⟨80, _⟩ => ⟨S4x256x5632, .f32⟩
  | .hbm, ⟨81, _⟩ => ⟨S_, .f32⟩
  | .hbm, ⟨82, _⟩ => ⟨S4x256x5632, .f32⟩
  | .hbm, ⟨83, _⟩ => ⟨S4x256x5632, .f32⟩
  | .hbm, ⟨84, _⟩ => ⟨S_, .f32⟩
  | .hbm, ⟨85, _⟩ => ⟨S4x256x5632, .f32⟩
  | .hbm, ⟨86, _⟩ => ⟨S4x256x5632, .f32⟩
  | .hbm, ⟨87, _⟩ => ⟨S4x256x5632, .f32⟩
  | .hbm, ⟨88, _⟩ => ⟨S4x256x5632, .f32⟩
  | .hbm, ⟨89, _⟩ => ⟨S8192x5632, .f32⟩
  | .hbm, ⟨90, _⟩ => ⟨S1024x5632, .f32⟩
  | .hbm, ⟨91, _⟩ => ⟨S9216x5632, .f32⟩
  | .hbm, ⟨92, _⟩ => ⟨S9216x5632, .bf16⟩
  | _, _ => ⟨S9216x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_0 : Ref sig .tc := ⟨.hbm, 48, rfl⟩
abbrev main_call2_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_1 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== FfnOut.lean ====
abbrev S9216x5632 : Shape := ⟨2, ![9216, 5632]⟩
abbrev S5632x2048 : Shape := ⟨2, ![5632, 2048]⟩
abbrev S9216x2048 : Shape := ⟨2, ![9216, 2048]⟩
abbrev S8x1x12288 : Shape := ⟨3, ![8, 1, 12288]⟩
abbrev S512x5632 : Shape := ⟨2, ![512, 5632]⟩
abbrev S5632x512 : Shape := ⟨2, ![5632, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S9216x5632, .bf16⟩
  | .hbm, ⟨1, _⟩ => ⟨S5632x2048, .f32⟩
  | .hbm, ⟨2, _⟩ => ⟨S9216x2048, .f32⟩
  | .hbm, ⟨3, _⟩ => ⟨S8x1x12288, .f32⟩
  | .hbm, ⟨4, _⟩ => ⟨S5632x2048, .bf16⟩
  | .hbm, ⟨5, _⟩ => ⟨S9216x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![18, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c20_i32 : BitVec 32 := 20#32
  let v18 : BitVec 32 := Scalar.addi c20_i32 arg1
  let c0_i32_5 : BitVec 32 := 0#32
  let c0_i32_6 : BitVec 32 := 0#32
  ![v17.toNat, c0_i32_5.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnOutRefIdeal.lean ====
abbrev S9216x5632 : Shape := ⟨2, ![9216, 5632]⟩
abbrev S5632x2048 : Shape := ⟨2, ![5632, 2048]⟩
abbrev S9216x2048 : Shape := ⟨2, ![9216, 2048]⟩
abbrev S8x1x12288 : Shape := ⟨3, ![8, 1, 12288]⟩
abbrev S4x1x12288 : Shape := ⟨3, ![4, 1, 12288]⟩
abbrev S4x12288 : Shape := ⟨2, ![4, 12288]⟩
abbrev S4x2048 : Shape := ⟨2, ![4, 2048]⟩
abbrev S4x1x2048 : Shape := ⟨3, ![4, 1, 2048]⟩
abbrev S1x1x12288 : Shape := ⟨3, ![1, 1, 12288]⟩
abbrev S12288 : Shape := ⟨1, ![12288]⟩
abbrev S2048 : Shape := ⟨1, ![2048]⟩
abbrev S8192x2048 : Shape := ⟨2, ![8192, 2048]⟩
abbrev S4x2048x2048 : Shape := ⟨3, ![4, 2048, 2048]⟩
abbrev S8192x5632 : Shape := ⟨2, ![8192, 5632]⟩
abbrev S4x2048x5632 : Shape := ⟨3, ![4, 2048, 5632]⟩
abbrev S1024x2048 : Shape := ⟨2, ![1024, 2048]⟩
abbrev S4x256x2048 : Shape := ⟨3, ![4, 256, 2048]⟩
abbrev S1024x5632 : Shape := ⟨2, ![1024, 5632]⟩
abbrev S4x256x5632 : Shape := ⟨3, ![4, 256, 5632]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S5632x2048, .f32⟩
  | .hbm, ⟨2, _⟩ => ⟨S9216x2048, .f32⟩
  | .hbm, ⟨3, _⟩ => ⟨S8x1x12288, .f32⟩
  | .hbm, ⟨4, _⟩ => ⟨S4x1x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S1x1x12288, .f32⟩
  | .hbm, ⟨19, _⟩ => ⟨S12288, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S9216x5632, .f32⟩
  | .hbm, ⟨27, _⟩ => ⟨S8192x2048, .f32⟩
  | .hbm, ⟨28, _⟩ => ⟨S4x2048x2048, .f32⟩
  | .hbm, ⟨29, _⟩ => ⟨S8192x5632, .f32⟩
  | .hbm, ⟨30, _⟩ => ⟨S4x2048x5632, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S1024x2048, .f32⟩
  | .hbm, ⟨36, _⟩ => ⟨S4x256x2048, .f32⟩
  | .hbm, ⟨37, _⟩ => ⟨S1024x5632, .f32⟩
  | .hbm, ⟨38, _⟩ => ⟨S4x256x5632, .f32⟩
  | .hbm, ⟨39, _⟩ => ⟨S4x256x2048, .f32⟩
  | .hbm, ⟨40, _⟩ => ⟨S1x1x2048, .f32⟩
  | .hbm, ⟨41, _⟩ => ⟨S4x256x2048, .f32⟩
  | .hbm, ⟨42, _⟩ => ⟨S4x256x2048, .f32⟩
  | .hbm, ⟨43, _⟩ => ⟨S4x256x2048, .f32⟩
  | .hbm, ⟨44, _⟩ => ⟨S8192x2048, .f32⟩
  | .hbm, ⟨45, _⟩ => ⟨S1024x2048, .f32⟩
  | .hbm, ⟨46, _⟩ => ⟨S9216x2048, .f32⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩

abbrev nD : Nat := 1
abbrev τ : Topo := Topo.v7x

variable {F : FTy → Type} [FloatOps F]
-- ==== MixerOutLast.lean ====
abbrev S9216x2048 : Shape := ⟨2, ![9216, 2048]⟩
abbrev S2048x2048 : Shape := ⟨2, ![2048, 2048]⟩
abbrev S8x1x12288 : Shape := ⟨3, ![8, 1, 12288]⟩
abbrev S8192x2048 : Shape := ⟨2, ![8192, 2048]⟩
abbrev S512x2048 : Shape := ⟨2, ![512, 2048]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S9216x2048, .f32⟩
  | .hbm, ⟨3, _⟩ => ⟨S8x1x12288, .f32⟩
  | .hbm, ⟨4, _⟩ => ⟨S2048x2048, .bf16⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c8_i32 : BitVec 32 := 8#32
  let v18 : BitVec 32 := Scalar.addi c8_i32 arg1
  let c0_i32_5 : BitVec 32 := 0#32
  let c0_i32_6 : BitVec 32 := 0#32
  ![v17.toNat, c0_i32_5.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixerOutLastRefIdeal.lean ====
abbrev S9216x2048 : Shape := ⟨2, ![9216, 2048]⟩
abbrev S2048x2048 : Shape := ⟨2, ![2048, 2048]⟩
abbrev S8x1x12288 : Shape := ⟨3, ![8, 1, 12288]⟩
abbrev S4x1x12288 : Shape := ⟨3, ![4, 1, 12288]⟩
abbrev S4x12288 : Shape := ⟨2, ![4, 12288]⟩
abbrev S4x2048 : Shape := ⟨2, ![4, 2048]⟩
abbrev S4x1x2048 : Shape := ⟨3, ![4, 1, 2048]⟩
abbrev S1x1x12288 : Shape := ⟨3, ![1, 1, 12288]⟩
abbrev S12288 : Shape := ⟨1, ![12288]⟩
abbrev S2048 : Shape := ⟨1, ![2048]⟩
abbrev S8192x2048 : Shape := ⟨2, ![8192, 2048]⟩
abbrev S4x2048x2048 : Shape := ⟨3, ![4, 2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x2048, .f32⟩
  | .hbm, ⟨2, _⟩ => ⟨S9216x2048, .f32⟩
  | .hbm, ⟨3, _⟩ => ⟨S8x1x12288, .f32⟩
  | .hbm, ⟨4, _⟩ => ⟨S4x1x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S1x1x12288, .f32⟩
  | .hbm, ⟨19, _⟩ => ⟨S12288, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S8192x2048, .f32⟩
  | .hbm, ⟨27, _⟩ => ⟨S4x2048x2048, .f32⟩
  | .hbm, ⟨28, _⟩ => ⟨S9216x2048, .f32⟩
  | .hbm, ⟨29, _⟩ => ⟨S8192x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S8192x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== FfnInLast.lean ====
abbrev S8192x2048 : Shape := ⟨2, ![8192, 2048]⟩
abbrev S2048 : Shape := ⟨1, ![2048]⟩
abbrev S8x1x12288 : Shape := ⟨3, ![8, 1, 12288]⟩
abbrev S2048x11264 : Shape := ⟨2, ![2048, 11264]⟩
abbrev S1x2048 : Shape := ⟨2, ![1, 2048]⟩
abbrev S8192x11264 : Shape := ⟨2, ![8192, 11264]⟩
abbrev S512x2048 : Shape := ⟨2, ![512, 2048]⟩
abbrev S1x1x2048 : Shape := ⟨3, ![1, 1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8x1x12288, .f32⟩
  | .hbm, ⟨3, _⟩ => ⟨S2048x11264, .f32⟩
  | .hbm, ⟨4, _⟩ => ⟨S2048x11264, .bf16⟩
  | .hbm, ⟨5, _⟩ => ⟨S1x2048, .f32⟩
  | .hbm, ⟨6, _⟩ => ⟨S8192x11264, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S512x512, .f32⟩
  | .local _ .vmem, ⟨10, _⟩ => ⟨S512x512, .f32⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c3_i32 : BitVec 32 := 3#32
  let c0_i32_6 : BitVec 32 := 0#32
  ![v17.toNat, c0_i32_5.toNat, c3_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c0_i32_5 : BitVec 32 := 0#32
  let c4_i32_6 : BitVec 32 := 4#32
  let c0_i32_7 : BitVec 32 := 0#32
  ![v17.toNat, c0_i32_5.toNat, c4_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInLastRefIdeal.lean ====
abbrev S8192x2048 : Shape := ⟨2, ![8192, 2048]⟩
abbrev S2048 : Shape := ⟨1, ![2048]⟩
abbrev S8x1x12288 : Shape := ⟨3, ![8, 1, 12288]⟩
abbrev S2048x11264 : Shape := ⟨2, ![2048, 11264]⟩
abbrev S4x1x12288 : Shape := ⟨3, ![4, 1, 12288]⟩
abbrev S4x12288 : Shape := ⟨2, ![4, 12288]⟩
abbrev S4x2048 : Shape := ⟨2, ![4, 2048]⟩
abbrev S4x1x2048 : Shape := ⟨3, ![4, 1, 2048]⟩
abbrev S1x1x12288 : Shape := ⟨3, ![1, 1, 12288]⟩
abbrev S12288 : Shape := ⟨1, ![12288]⟩
abbrev S4x2048x2048 : Shape := ⟨3, ![4, 2048, 2048]⟩
abbrev S_ : Shape := ⟨0, ![]⟩
abbrev S4x2048x1 : Shape := ⟨3, ![4, 2048, 1]⟩
abbrev S1x1x2048 : Shape := ⟨3, ![1, 1, 2048]⟩
abbrev S4x2048x11264 : Shape := ⟨3, ![4, 2048, 11264]⟩
abbrev S8192x11264 : Shape := ⟨2, ![8192, 11264]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8x1x12288, .f32⟩
  | .hbm, ⟨3, _⟩ => ⟨S2048x11264, .f32⟩
  | .hbm, ⟨4, _⟩ => ⟨S4x1x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S1x1x12288, .f32⟩
  | .hbm, ⟨19, _⟩ => ⟨S12288, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S1x1x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x1x2048, .f32⟩
  | .hbm, ⟨45, _⟩ => ⟨S4x1x2048, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x11264, .f32⟩
  | .hbm, ⟨51, _⟩ => ⟨S8192x11264, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== FfnOutLast.lean ====
abbrev S8192x5632 : Shape := ⟨2, ![8192, 5632]⟩
abbrev S5632x2048 : Shape := ⟨2, ![5632, 2048]⟩
abbrev S8192x2048 : Shape := ⟨2, ![8192, 2048]⟩
abbrev S8x1x12288 : Shape := ⟨3, ![8, 1, 12288]⟩
abbrev S512x5632 : Shape := ⟨2, ![512, 5632]⟩
abbrev S5632x512 : Shape := ⟨2, ![5632, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8x1x12288, .f32⟩
  | .hbm, ⟨4, _⟩ => ⟨S5632x2048, .bf16⟩
  | .hbm, ⟨5, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c20_i32 : BitVec 32 := 20#32
  let v18 : BitVec 32 := Scalar.addi c20_i32 arg1
  let c0_i32_5 : BitVec 32 := 0#32
  let c0_i32_6 : BitVec 32 := 0#32
  ![v17.toNat, c0_i32_5.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnOutLastRefIdeal.lean ====
abbrev S8192x5632 : Shape := ⟨2, ![8192, 5632]⟩
abbrev S5632x2048 : Shape := ⟨2, ![5632, 2048]⟩
abbrev S8192x2048 : Shape := ⟨2, ![8192, 2048]⟩
abbrev S8x1x12288 : Shape := ⟨3, ![8, 1, 12288]⟩
abbrev S4x1x12288 : Shape := ⟨3, ![4, 1, 12288]⟩
abbrev S4x12288 : Shape := ⟨2, ![4, 12288]⟩
abbrev S4x2048 : Shape := ⟨2, ![4, 2048]⟩
abbrev S4x1x2048 : Shape := ⟨3, ![4, 1, 2048]⟩
abbrev S1x1x12288 : Shape := ⟨3, ![1, 1, 12288]⟩
abbrev S12288 : Shape := ⟨1, ![12288]⟩
abbrev S2048 : Shape := ⟨1, ![2048]⟩
abbrev S4x2048x2048 : Shape := ⟨3, ![4, 2048, 2048]⟩
abbrev S4x2048x5632 : Shape := ⟨3, ![4, 2048, 5632]⟩

abbrev nBuf : Space → Nat
  | .hbm => 34
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8x1x12288, .f32⟩
  | .hbm, ⟨4, _⟩ => ⟨S4x1x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S1x1x12288, .f32⟩
  | .hbm, ⟨19, _⟩ => ⟨S12288, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S4x2048x2048, .f32⟩
  | .hbm, ⟨27, _⟩ => ⟨S8192x5632, .f32⟩
  | .hbm, ⟨28, _⟩ => ⟨S4x2048x5632, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== FinalNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8192x2048 : Shape := ⟨2, ![8192, 2048]⟩
abbrev S2048 : Shape := ⟨1, ![2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x2048x2048, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Softmax.lean ====
/-
  Weighted means under a softmax: dividing once, after the weighted sum, is dividing every weight.
-/
module

public import Idealize.ShloMosaic.Lib.Pointwise
public import Idealize.ShloMosaic.Lib.IdealHost

@[expose] public section

noncomputable section

open Idealize.ShloMosaic

namespace Cert.Softmax

/-- An extended real that is a number. -/
def IsNum (x : EReal) : Prop := ∃ r : ℝ, x = (r : EReal)

theorem IsNum.add {x y : EReal} : IsNum x → IsNum y → IsNum (x + y) := by
  rintro ⟨a, rfl⟩ ⟨b, rfl⟩; exact ⟨a + b, by push_cast; rfl⟩

theorem IsNum.mul {x y : EReal} : IsNum x → IsNum y → IsNum (x * y) := by
  rintro ⟨a, rfl⟩ ⟨b, rfl⟩; exact ⟨a * b, by push_cast; rfl⟩

theorem IsNum.sum {ι : Type*} (s : Finset ι) {f : ι → EReal} (h : ∀ i, IsNum (f i)) : IsNum (∑ i ∈ s, f i) := by
  classical
  induction s using Finset.induction_on with
  | empty => exact ⟨0, by simp⟩
  | insert a s ha ih => rw [Finset.sum_insert ha]; exact (h a).add ih

theorem isNum_of_abs_lt {x : EReal} (h : max x (-x) < ⊤) : IsNum x := by
  induction x with
  | bot => simp at h
  | top => simp at h
  | coe r => exact ⟨r, rfl⟩

/-- A finite sum times a nonnegative number, term by term: no corner of the extended reals is met. -/
theorem sum_mul_of_nonneg {ι : Type*} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- The reductions start from −∞. -/
theorem neg_inf : Ideal.ofBits FTy.f32 0xFF800000#32 = ⊥ := by
  simp [Ideal.ofBits, Ideal.ieee]

/-- The attention's scale is a number. -/
theorem isNum_scale : IsNum (Ideal.ofBits FTy.f32 0x3D93CD3A#32) := by
  simp only [Ideal.ofBits, Ideal.ieee]
  rw [if_neg (by decide), if_neg (by decide)]
  exact ⟨_, rfl⟩

/-- The largest of finitely many, as both programs take it: from −∞ upwards. -/
def largest {n : ℕ} (s : Fin n → EReal) : EReal := Finset.fold max ⊥ s Finset.univ

/-- The unnormalised weight of key `k` among scores `s`. -/
def weight {n : ℕ} (s : Fin n → EReal) (k : Fin n) : EReal := Ideal.exp (s k - largest s)

/-- The mean of `v` under the softmax of `s`: every weight divided by the sum of the weights, then the sum. -/
def attend {n : ℕ} (s v : Fin n → EReal) : EReal := ∑ k, Ideal.div (weight s k) (∑ j, weight s j) * v k

theorem exists_largest {n : ℕ} (hn : 0 < n) (s : Fin n → EReal) : ∃ k, largest s = s k := by
  haveI : Nonempty (Fin n) := ⟨⟨0, hn⟩⟩
  obtain ⟨k, -, hk⟩ := Finset.exists_max_image (Finset.univ : Finset (Fin n)) s Finset.univ_nonempty
  refine ⟨k, le_antisymm ?_ ?_⟩
  · exact (Finset.fold_max_le _).2 ⟨bot_le, fun j hj => hk j hj⟩
  · exact (Finset.le_fold_max _).2 (Or.inr ⟨k, Finset.mem_univ _, le_rfl⟩)

theorem exp_nonneg (x : EReal) : 0 ≤ Ideal.exp x := by
  induction x with
  | bot => exact le_rfl
  | top => exact le_top
  | coe r => exact EReal.coe_nonneg.2 (Real.exp_nonneg r)

/-- The weights of numbers add up to at least one: the largest score's weight is one. -/
theorem one_le_total {n : ℕ} (hn : 0 < n) (s : Fin n → EReal) (hs : ∀ k, IsNum (s k)) : 1 ≤ ∑ k, weight s k := by
  obtain ⟨k, hk⟩ := exists_largest hn s
  obtain ⟨r, hr⟩ := hs k
  have e : weight s k = 1 := by
    rw [weight, hk, hr, ← EReal.coe_sub, sub_self]
    show ((Real.exp 0 : ℝ) : EReal) = 1
    rw [Real.exp_zero]; rfl
  rw [← e]
  exact Finset.single_le_sum (f := weight s) (fun j _ => exp_nonneg _) (Finset.mem_univ k)

/-- Dividing once, after the weighted sum, is dividing every weight. -/
theorem div_sum_eq_attend {n : ℕ} (hn : 0 < n) (s v : Fin n → EReal) (hs : ∀ k, IsNum (s k)) :
    Ideal.div (∑ k, weight s k * v k) (∑ j, weight s j) = attend s v := by
  have h1 := one_le_total hn s hs
  unfold attend
  generalize (∑ j, weight s j) = L at h1 ⊢
  have h0 : L ≠ 0 := fun h => by rw [h] at h1; exact absurd h1 (by norm_num)
  have hL : 0 ≤ L⁻¹ ∧ L⁻¹ ≠ ⊤ := by
    refine ⟨EReal.inv_nonneg_of_nonneg (le_trans zero_le_one h1), ?_⟩
    induction L with
    | bot => simp
    | top => simp
    | coe r => rw [← EReal.coe_inv]; exact EReal.coe_ne_top _
  simp only [Ideal.div, if_neg h0]
  rw [sum_mul_of_nonneg _ _ hL.1 hL.2]
  exact Finset.sum_congr rfl fun k _ => by rw [mul_assoc, mul_comm (v k), ← mul_assoc]

end Cert.Softmax

end
-- ==== Proof.MlaRef.lean ====
/-
  `mla_attention`: what the reference computes at one element.
-/
module

public import proofs.«01_k».proof.Defs
public import proofs.«01_k».proof.Proof.Softmax
public import proofs.«01_k».proof.Proof.Gen.MlaAttnRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Calls.MlaAttn

open Cert.MlaAttnRefIdeal Cert.MlaAttnRefIdeal.Facts₀ Cert.Softmax

/-! ## What is computed -/

/-- Row `n` of sequence `b` of the latent stream. -/
def latRow (b : Fin 4) (n : Fin 2048) : Fin 9216 := ⟨b.val * 2048 + n.val, by omega⟩

/-- Row `n` of sequence `b` of the context. -/
def ctxRow (b : Fin 4) (n : Fin 256) : Fin 9216 := ⟨8192 + (b.val * 256 + n.val), by omega⟩

/-- Key `k` of sequence `b`: the latent's rows, then the context's. -/
def keyRow (b : Fin 4) (k : Fin 2304) : Fin 9216 :=
  if h : k.val < 2048 then latRow b ⟨k.val, h⟩ else ctxRow b ⟨k.val - 2048, by omega⟩

/-- Column `d` of head `h` in a row of 16 heads of 256, from column `o` of the head on. -/
def col (h : Fin 16) (o : ℕ) (ho : o ≤ 128) (d : Fin 128) : Fin 4096 := ⟨h.val * 256 + (o + d.val), by omega⟩

/-- The score of the query in row `r` against the key in row `ρ`, in head `h`: the product over the head's own 128
    columns, and over the 128 of the rotary part that all heads share, times the scale. -/
def score (q kv : FVec Ideal S9216x4096 .bf16) (kpe : FVec Ideal S9216x128 .bf16) (h : Fin 16) (r ρ : Fin 9216) : EReal :=
  (∑ d : Fin 128, q (ix2 r (col h 0 (by omega) d)) * kv (ix2 ρ (col h 0 (by omega) d))
    + ∑ d : Fin 128, q (ix2 r (col h 128 le_rfl d)) * kpe (ix2 ρ d)) * Ideal.ofBits .f32 0x3D93CD3A#32

/-- The attention of the latent's queries, over the sequence's latent and context. -/
def latOut (q kv : FVec Ideal S9216x4096 .bf16) (kpe : FVec Ideal S9216x128 .bf16) (b : Fin 4) (h : Fin 16) (r : Fin 9216)
    (d : Fin 128) : EReal :=
  attend (fun k : Fin 2304 => score q kv kpe h r (keyRow b k)) (fun k => kv (ix2 (keyRow b k) (col h 128 le_rfl d)))

/-- The attention of the context's queries, over the sequence's context alone. -/
def ctxOut (q kv : FVec Ideal S9216x4096 .bf16) (kpe : FVec Ideal S9216x128 .bf16) (b : Fin 4) (h : Fin 16) (r : Fin 9216)
    (d : Fin 128) : EReal :=
  attend (fun k : Fin 256 => score q kv kpe h r (ctxRow b k)) (fun k => kv (ix2 (ctxRow b k) (col h 128 le_rfl d)))

/-- The result, row by row: latent rows, then context rows; the head is the block of 128 columns. -/
def spec (q kv : FVec Ideal S9216x4096 .bf16) (kpe : FVec Ideal S9216x128 .bf16) : FVec Ideal S9216x2048 .bf16 := fun i =>
  let r : Fin 9216 := i 0
  let h : Fin 16 := ⟨(i 1).val / 128, by have : (i 1).val < 2048 := (i 1).isLt; omega⟩
  let d : Fin 128 := ⟨(i 1).val % 128, Nat.mod_lt _ (by decide)⟩
  if hr : r.val < 8192 then latOut q kv kpe ⟨r.val / 2048, by omega⟩ h r d
  else ctxOut q kv kpe ⟨(r.val - 8192) / 256, by omega⟩ h r d

/-! ## The softmax's stages, for any number of queries and keys -/

section Stages
variable {n m : ℕ}

/-- The largest score of every query. -/
theorem max_apply (s : FVec Ideal ⟨4, ![4, 16, n, m]⟩ .f32) (hr : (⟨4, ![4, 16, n, m]⟩ : Shape).ReducesTo [3] ⟨3, ![4, 16, n]⟩)
    (hu : 0 < S_.numel) (b : Fin 4) (h : Fin 16) (i : Fin n) :
    Host.reduce FloatOps.maximumf s (constant S_ .f32 0xFF800000#32) hr hu (ix3 b h i) = largest (fun j : Fin m => s (ix4 b h i j)) := by
  rw [largest, ← neg_inf, Host.reduce_eq_fold, Shape.ReducesTo.fold_fiber_r4_a3]
  rfl

/-- A maximum with −∞ changes nothing. -/
theorem floor_apply {sh : Shape} (t : FVec Ideal sh .f32) (hb) (i) :
    maximumf (broadcastInDim sh ![] hb (constant (F := Ideal) S_ .f32 0xFF800000#32)) t i = t i := by
  have e : maximumf (broadcastInDim sh ![] hb (constant (F := Ideal) S_ .f32 0xFF800000#32)) t i
      = max (Ideal.ofBits .f32 0xFF800000#32) (t i) := rfl
  rw [e, neg_inf]
  exact bot_sup_eq _

/-- The total weight of every query. -/
theorem total_apply (e : FVec Ideal ⟨4, ![4, 16, n, m]⟩ .f32) (hr : (⟨4, ![4, 16, n, m]⟩ : Shape).ReducesTo [3] ⟨3, ![4, 16, n]⟩)
    (hu : 0 < S_.numel) (b : Fin 4) (h : Fin 16) (i : Fin n) :
    Host.reduceAdd e (constant S_ .f32 0x00000000#32) hr hu (ix3 b h i) = ∑ j : Fin m, e (ix4 b h i j) := by
  pointwise []

end Stages

/-! ## The stages of the reference, over arrays -/

/-- The latent rows, by sequence and head. -/
def latHeads (t : FVec Ideal S9216x4096 .bf16) : FVec Ideal S4x16x2048x256 .f32 :=
  transpose S4x16x2048x256 [0, 2, 1, 3] (shapeCast S4x2048x16x256 (shapeCast S4x2048x4096
    (extractStridedSlice S8192x4096 ![0, 0] (extf .f32 t bitsLt_bf16_f32) slices_S9216x4096_S8192x4096_0_0)
    shapeCasts_S8192x4096_S4x2048x4096) shapeCasts_S4x2048x4096_S4x2048x16x256) transposes_S4x2048x16x256_S4x16x2048x256_0_2_1_3

theorem latHeads_apply (t : FVec Ideal S9216x4096 .bf16) (b : Fin 4) (h : Fin 16) (n : Fin 2048) (d : Fin 256) :
    latHeads t (ix4 b h n d) = t (ix2 (latRow b n) ⟨h.val * 256 + d.val, by omega⟩) := by
  pointwise [latHeads]
  rfl

/-- The context's rows, by sequence and head. -/
def ctxHeads (t : FVec Ideal S9216x4096 .bf16) : FVec Ideal S4x16x256x256 .f32 :=
  transpose S4x16x256x256 [0, 2, 1, 3] (shapeCast S4x256x16x256 (shapeCast S4x256x4096
    (extractStridedSlice S1024x4096 ![8192, 0] (extf .f32 t bitsLt_bf16_f32) slices_S9216x4096_S1024x4096_8192_0)
    shapeCasts_S1024x4096_S4x256x4096) shapeCasts_S4x256x4096_S4x256x16x256) transposes_S4x256x16x256_S4x16x256x256_0_2_1_3

theorem ctxHeads_apply (t : FVec Ideal S9216x4096 .bf16) (b : Fin 4) (h : Fin 16) (n : Fin 256) (d : Fin 256) :
    ctxHeads t (ix4 b h n d) = t (ix2 (ctxRow b n) ⟨h.val * 256 + d.val, by omega⟩) := by
  pointwise [ctxHeads]
  rfl

/-- The keys' shared rotary part: the latent's rows by sequence. -/
def latRope (t : FVec Ideal S9216x128 .bf16) : FVec Ideal S4x2048x128 .f32 :=
  shapeCast S4x2048x128 (extractStridedSlice S8192x128 ![0, 0] (extf .f32 t bitsLt_bf16_f32) slices_S9216x128_S8192x128_0_0)
    shapeCasts_S8192x128_S4x2048x128

/-- The keys' shared rotary part: the context's rows by sequence. -/
def ctxRope (t : FVec Ideal S9216x128 .bf16) : FVec Ideal S4x256x128 .f32 :=
  shapeCast S4x256x128 (extractStridedSlice S1024x128 ![8192, 0] (extf .f32 t bitsLt_bf16_f32) slices_S9216x128_S1024x128_8192_0)
    shapeCasts_S1024x128_S4x256x128

theorem ctxRope_apply (t : FVec Ideal S9216x128 .bf16) (b : Fin 4) (n : Fin 256) (d : Fin 128) :
    ctxRope t (ix3 b n d) = t (ix2 (ctxRow b n) d) := by
  pointwise [ctxRope]
  rfl

/-- The keys' rotary part at all positions. -/
def allRope (t : FVec Ideal S9216x128 .bf16) : FVec Ideal S4x2304x128 .f32 :=
  concatenate S4x2304x128 1 [⟨S4x2048x128, latRope t⟩, ⟨S4x256x128, ctxRope t⟩] concatenates_S4x2048x128_S4x256x128_S4x2304x128_d1

theorem allRope_apply (t : FVec Ideal S9216x128 .bf16) (b : Fin 4) (k : Fin 2304) (d : Fin 128) :
    allRope t (ix3 b k d) = t (ix2 (keyRow b k) d) := by
  pointwise [allRope, latRope, ctxRope]
  unfold keyRow
  split <;> rfl

/-- The first 128 columns of every head. -/
def latLo (t : FVec Ideal S4x16x2048x256 .f32) : FVec Ideal S4x16x2048x128 .f32 :=
  extractStridedSlice S4x16x2048x128 ![0, 0, 0, 0] t slices_S4x16x2048x256_S4x16x2048x128_0_0_0_0

/-- The last 128 columns of every head. -/
def latHi (t : FVec Ideal S4x16x2048x256 .f32) : FVec Ideal S4x16x2048x128 .f32 :=
  extractStridedSlice S4x16x2048x128 ![0, 0, 0, 128] t slices_S4x16x2048x256_S4x16x2048x128_0_0_0_128

/-- The first 128 columns of every head of the context. -/
def ctxLo (t : FVec Ideal S4x16x256x256 .f32) : FVec Ideal S4x16x256x128 .f32 :=
  extractStridedSlice S4x16x256x128 ![0, 0, 0, 0] t slices_S4x16x256x256_S4x16x256x128_0_0_0_0

/-- The last 128 columns of every head of the context. -/
def ctxHi (t : FVec Ideal S4x16x256x256 .f32) : FVec Ideal S4x16x256x128 .f32 :=
  extractStridedSlice S4x16x256x128 ![0, 0, 0, 128] t slices_S4x16x256x256_S4x16x256x128_0_0_0_128

/-- Latent and context joined along the positions. -/
def joined (a : FVec Ideal S4x16x2048x128 .f32) (c : FVec Ideal S4x16x256x128 .f32) : FVec Ideal S4x16x2304x128 .f32 :=
  concatenate S4x16x2304x128 2 [⟨S4x16x2048x128, a⟩, ⟨S4x16x256x128, c⟩] concatenates_S4x16x2048x128_S4x16x256x128_S4x16x2304x128_d2

theorem joined_lo (t : FVec Ideal S9216x4096 .bf16) (b : Fin 4) (h : Fin 16) (k : Fin 2304) (d : Fin 128) :
    joined (latLo (latHeads t)) (ctxLo (ctxHeads t)) (ix4 b h k d) = t (ix2 (keyRow b k) (col h 0 (by omega) d)) := by
  pointwise [joined, latLo, ctxLo]
  unfold keyRow
  split
  · rw [latHeads_apply]; simp only [col, zero_add]
  · rw [ctxHeads_apply]; simp only [col, zero_add]

theorem joined_hi (t : FVec Ideal S9216x4096 .bf16) (b : Fin 4) (h : Fin 16) (k : Fin 2304) (d : Fin 128) :
    joined (latHi (latHeads t)) (ctxHi (ctxHeads t)) (ix4 b h k d) = t (ix2 (keyRow b k) (col h 128 le_rfl d)) := by
  pointwise [joined, latHi, ctxHi]
  unfold keyRow
  split
  · rw [latHeads_apply]; rfl
  · rw [ctxHeads_apply]; rfl

/-- Scores of the latent queries over all keys. -/
def latScores (q : FVec Ideal S4x16x2048x256 .f32) (k : FVec Ideal S4x16x2304x128 .f32) (r : FVec Ideal S4x2304x128 .f32) :
    FVec Ideal S4x16x2048x2304 .f32 :=
  mulf (addf
    (Host.dotGeneral dot_S4x16x2048x128_S4x16x2304x128_S4x16x2048x2304_3_3_2_2_01_01 none (latLo q) k)
    (Host.dotGeneral dot_S4x16x2048x128_S4x2304x128_S4x16x2048x2304_3_2_12_1_0_0 none (latHi q) r))
    (broadcastInDim S4x16x2048x2304 ![] bcast_S_S4x16x2048x2304 (constant S_ .f32 0x3D93CD3A#32))

theorem latScores_apply (q k r) (b : Fin 4) (h : Fin 16) (n : Fin 2048) (j : Fin 2304) :
    latScores q k r (ix4 b h n j)
      = (∑ d, latLo q (ix4 b h n d) * k (ix4 b h j d) + ∑ d, latHi q (ix4 b h n d) * r (ix3 b j d)) * Ideal.ofBits .f32 0x3D93CD3A#32 := by
  pointwise [latScores]

/-- Scores of the context's queries over the context's keys. -/
def ctxScores (q : FVec Ideal S4x16x256x256 .f32) (k : FVec Ideal S4x16x256x128 .f32) (r : FVec Ideal S4x256x128 .f32) :
    FVec Ideal S4x16x256x256 .f32 :=
  mulf (addf
    (Host.dotGeneral dot_S4x16x256x128_S4x16x256x128_S4x16x256x256_3_3_2_2_01_01 none (ctxLo q) k)
    (Host.dotGeneral dot_S4x16x256x128_S4x256x128_S4x16x256x256_3_2_12_1_0_0 none (ctxHi q) r))
    (broadcastInDim S4x16x256x256 ![] bcast_S_S4x16x256x256 (constant S_ .f32 0x3D93CD3A#32))

theorem ctxScores_apply (q k r) (b : Fin 4) (h : Fin 16) (n : Fin 256) (j : Fin 256) :
    ctxScores q k r (ix4 b h n j)
      = (∑ d, ctxLo q (ix4 b h n d) * k (ix4 b h j d) + ∑ d, ctxHi q (ix4 b h n d) * r (ix3 b j d)) * Ideal.ofBits .f32 0x3D93CD3A#32 := by
  pointwise [ctxScores]

/-- One number per query of the latent, repeated along the keys. -/
def latSpread (t : FVec Ideal S4x16x2048 .f32) : FVec Ideal S4x16x2048x2304 .f32 :=
  broadcastInDim S4x16x2048x2304 ![0, 1, 2, 3] bcast_S4x16x2048x1_S4x16x2048x2304_0_1_2_3 (broadcastInDim S4x16x2048x1 ![0, 1, 2] bcast_S4x16x2048_S4x16x2048x1_0_1_2 t)

theorem latSpread_apply (t) (b : Fin 4) (h : Fin 16) (i : Fin 2048) (j : Fin 2304) : latSpread t (ix4 b h i j) = t (ix3 b h i) := by
  pointwise [latSpread]

/-- The unnormalised weights of the latent's queries. -/
def latWeights (s : FVec Ideal S4x16x2048x2304 .f32) : FVec Ideal S4x16x2048x2304 .f32 :=
  Host.exp (subf s (latSpread (maximumf (broadcastInDim S4x16x2048 ![] bcast_S_S4x16x2048 (constant (F := Ideal) S_ .f32 0xFF800000#32))
    (Host.reduce FloatOps.maximumf s (constant S_ .f32 0xFF800000#32) reducesTo_S4x16x2048x2304_S4x16x2048_d3 h_S_))))

theorem latWeights_apply (s) (b : Fin 4) (h : Fin 16) (i : Fin 2048) (j : Fin 2304) :
    latWeights s (ix4 b h i j) = weight (fun j : Fin 2304 => s (ix4 b h i j)) j := by
  unfold latWeights
  change Ideal.exp (s (ix4 b h i j) - latSpread _ (ix4 b h i j)) = _
  rw [latSpread_apply, floor_apply, max_apply]
  rfl

/-- The mean of the values under weights `e` divided by `t`. -/
def latMean (e t : FVec Ideal S4x16x2048x2304 .f32) (v : FVec Ideal S4x16x2304x128 .f32) : FVec Ideal S4x16x2048x128 .f32 :=
  Host.dotGeneral dot_S4x16x2048x2304_S4x16x2304x128_S4x16x2048x128_3_2_2_3_01_01 none (Host.divf e t) v

theorem latMean_apply (e t v) (b : Fin 4) (h : Fin 16) (i : Fin 2048) (d : Fin 128) :
    latMean e t v (ix4 b h i d) = ∑ j, Ideal.div (e (ix4 b h i j)) (t (ix4 b h i j)) * v (ix4 b h j d) := by
  pointwise [latMean]

/-- The attention of the latent's queries, from scores and values. -/
def latAttn (s : FVec Ideal S4x16x2048x2304 .f32) (v : FVec Ideal S4x16x2304x128 .f32) : FVec Ideal S4x16x2048x128 .f32 :=
  latMean (latWeights s) (latSpread (Host.reduceAdd (latWeights s) (constant S_ .f32 0x00000000#32) reducesTo_S4x16x2048x2304_S4x16x2048_d3 h_S_)) v

theorem latAttn_apply (s v) (b : Fin 4) (h : Fin 16) (i : Fin 2048) (d : Fin 128) :
    latAttn s v (ix4 b h i d) = attend (fun j : Fin 2304 => s (ix4 b h i j)) (fun j => v (ix4 b h j d)) := by
  unfold latAttn
  rw [latMean_apply]
  simp only [latSpread_apply, total_apply, latWeights_apply]
  rfl

/-- One number per query of the context, repeated along the keys. -/
def ctxSpread (t : FVec Ideal S4x16x256 .f32) : FVec Ideal S4x16x256x256 .f32 :=
  broadcastInDim S4x16x256x256 ![0, 1, 2, 3] bcast_S4x16x256x1_S4x16x256x256_0_1_2_3 (broadcastInDim S4x16x256x1 ![0, 1, 2] bcast_S4x16x256_S4x16x256x1_0_1_2 t)

theorem ctxSpread_apply (t) (b : Fin 4) (h : Fin 16) (i : Fin 256) (j : Fin 256) : ctxSpread t (ix4 b h i j) = t (ix3 b h i) := by
  pointwise [ctxSpread]

/-- The unnormalised weights of the context's queries. -/
def ctxWeights (s : FVec Ideal S4x16x256x256 .f32) : FVec Ideal S4x16x256x256 .f32 :=
  Host.exp (subf s (ctxSpread (maximumf (broadcastInDim S4x16x256 ![] bcast_S_S4x16x256 (constant (F := Ideal) S_ .f32 0xFF800000#32))
    (Host.reduce FloatOps.maximumf s (constant S_ .f32 0xFF800000#32) reducesTo_S4x16x256x256_S4x16x256_d3 h_S_))))

theorem ctxWeights_apply (s) (b : Fin 4) (h : Fin 16) (i : Fin 256) (j : Fin 256) :
    ctxWeights s (ix4 b h i j) = weight (fun j : Fin 256 => s (ix4 b h i j)) j := by
  unfold ctxWeights
  change Ideal.exp (s (ix4 b h i j) - ctxSpread _ (ix4 b h i j)) = _
  rw [ctxSpread_apply, floor_apply, max_apply]
  rfl

/-- The mean of the values under weights `e` divided by `t`. -/
def ctxMean (e t : FVec Ideal S4x16x256x256 .f32) (v : FVec Ideal S4x16x256x128 .f32) : FVec Ideal S4x16x256x128 .f32 :=
  Host.dotGeneral dot_S4x16x256x256_S4x16x256x128_S4x16x256x128_3_2_2_3_01_01 none (Host.divf e t) v

theorem ctxMean_apply (e t v) (b : Fin 4) (h : Fin 16) (i : Fin 256) (d : Fin 128) :
    ctxMean e t v (ix4 b h i d) = ∑ j, Ideal.div (e (ix4 b h i j)) (t (ix4 b h i j)) * v (ix4 b h j d) := by
  pointwise [ctxMean]

/-- The attention of the context's queries, from scores and values. -/
def ctxAttn (s : FVec Ideal S4x16x256x256 .f32) (v : FVec Ideal S4x16x256x128 .f32) : FVec Ideal S4x16x256x128 .f32 :=
  ctxMean (ctxWeights s) (ctxSpread (Host.reduceAdd (ctxWeights s) (constant S_ .f32 0x00000000#32) reducesTo_S4x16x256x256_S4x16x256_d3 h_S_)) v

theorem ctxAttn_apply (s v) (b : Fin 4) (h : Fin 16) (i : Fin 256) (d : Fin 128) :
    ctxAttn s v (ix4 b h i d) = attend (fun j : Fin 256 => s (ix4 b h i j)) (fun j => v (ix4 b h j d)) := by
  unfold ctxAttn
  rw [ctxMean_apply]
  simp only [ctxSpread_apply, total_apply, ctxWeights_apply]
  rfl

/-- The latent's rows again, the heads side by side. -/
def latMerged (o : FVec Ideal S4x16x2048x128 .f32) : FVec Ideal S8192x2048 .f32 :=
  shapeCast S8192x2048 (shapeCast S4x2048x2048 (transpose S4x2048x16x128 [0, 2, 1, 3] o
    transposes_S4x16x2048x128_S4x2048x16x128_0_2_1_3) shapeCasts_S4x2048x16x128_S4x2048x2048) shapeCasts_S4x2048x2048_S8192x2048

theorem latMerged_apply (o) (r : Fin 8192) (j : Fin 2048) : latMerged o (ix2 r j)
    = o (ix4 ⟨r.val / 2048, by omega⟩ ⟨j.val / 128, by omega⟩ ⟨r.val % 2048, Nat.mod_lt _ (by decide)⟩ ⟨j.val % 128, Nat.mod_lt _ (by decide)⟩) := by
  pointwise [latMerged]

/-- The context's rows again, the heads side by side. -/
def ctxMerged (o : FVec Ideal S4x16x256x128 .f32) : FVec Ideal S1024x2048 .f32 :=
  shapeCast S1024x2048 (shapeCast S4x256x2048 (transpose S4x256x16x128 [0, 2, 1, 3] o
    transposes_S4x16x256x128_S4x256x16x128_0_2_1_3) shapeCasts_S4x256x16x128_S4x256x2048) shapeCasts_S4x256x2048_S1024x2048

theorem ctxMerged_apply (o) (r : Fin 1024) (j : Fin 2048) : ctxMerged o (ix2 r j)
    = o (ix4 ⟨r.val / 256, by omega⟩ ⟨j.val / 128, by omega⟩ ⟨r.val % 256, Nat.mod_lt _ (by decide)⟩ ⟨j.val % 128, Nat.mod_lt _ (by decide)⟩) := by
  pointwise [ctxMerged]

/-- All rows. -/
def merged (o : FVec Ideal S8192x2048 .f32) (oc : FVec Ideal S1024x2048 .f32) : FVec Ideal S9216x2048 .bf16 :=
  truncf .bf16 (concatenate S9216x2048 0 [⟨S8192x2048, o⟩, ⟨S1024x2048, oc⟩] concatenates_S8192x2048_S1024x2048_S9216x2048_d0) bitsLt_bf16_f32

theorem merged_apply (o oc) (r : Fin 9216) (j : Fin 2048) : merged o oc (ix2 r j)
    = if hr : r.val < 8192 then o (ix2 ⟨r.val, hr⟩ j) else oc (ix2 ⟨r.val - 8192, by omega⟩ j) := by
  pointwise [merged]

/-- The whole reference, stage by stage. -/
def term (q kv : FVec Ideal S9216x4096 .bf16) (kpe : FVec Ideal S9216x128 .bf16) : FVec Ideal S9216x2048 .bf16 :=
  merged
    (latMerged (latAttn (latScores (latHeads q) (joined (latLo (latHeads kv)) (ctxLo (ctxHeads kv))) (allRope kpe))
      (joined (latHi (latHeads kv)) (ctxHi (ctxHeads kv)))))
    (ctxMerged (ctxAttn (ctxScores (ctxHeads q) (ctxLo (ctxHeads kv)) (ctxRope kpe)) (ctxHi (ctxHeads kv))))

theorem lat_score_apply (q kv kpe) (b : Fin 4) (h : Fin 16) (n : Fin 2048) (k : Fin 2304) :
    latScores (latHeads q) (joined (latLo (latHeads kv)) (ctxLo (ctxHeads kv))) (allRope kpe) (ix4 b h n k)
      = score q kv kpe h (latRow b n) (keyRow b k) := by
  rw [latScores_apply]
  simp only [joined_lo, allRope_apply]
  pointwise [latLo, latHi]
  simp only [latHeads_apply, score, col, zero_add]

theorem ctx_score_apply (q kv kpe) (b : Fin 4) (h : Fin 16) (n : Fin 256) (k : Fin 256) :
    ctxScores (ctxHeads q) (ctxLo (ctxHeads kv)) (ctxRope kpe) (ix4 b h n k) = score q kv kpe h (ctxRow b n) (ctxRow b k) := by
  rw [ctxScores_apply]
  simp only [ctxRope_apply]
  pointwise [ctxLo, ctxHi]
  simp only [ctxHeads_apply, score, col, zero_add]

theorem ctxHi_apply (t : FVec Ideal S9216x4096 .bf16) (b : Fin 4) (h : Fin 16) (n : Fin 256) (d : Fin 128) :
    ctxHi (ctxHeads t) (ix4 b h n d) = t (ix2 (ctxRow b n) (col h 128 le_rfl d)) := by
  pointwise [ctxHi]
  rw [ctxHeads_apply]
  rfl

theorem spec_apply (q kv kpe) (r : Fin 9216) (j : Fin 2048) : spec q kv kpe (ix2 r j)
    = if hr : r.val < 8192 then
        latOut q kv kpe ⟨r.val / 2048, by omega⟩ ⟨j.val / 128, by omega⟩ r ⟨j.val % 128, Nat.mod_lt _ (by decide)⟩
      else ctxOut q kv kpe ⟨(r.val - 8192) / 256, by omega⟩ ⟨j.val / 128, by omega⟩ r ⟨j.val % 128, Nat.mod_lt _ (by decide)⟩ := rfl

/-- WHAT THE REFERENCE COMPUTES. -/
theorem term_eq (q kv kpe) : term q kv kpe = spec q kv kpe := by
  funext i
  obtain ⟨r, j, rfl⟩ : ∃ (r : Fin 9216) (j : Fin 2048), i = ix2 r j := ⟨i 0, i 1, eq_ix2 i⟩
  rw [spec_apply, term, merged_apply]
  by_cases hr : r.val < 8192
  · have e : latRow ⟨r.val / 2048, by omega⟩ ⟨r.val % 2048, Nat.mod_lt _ (by decide)⟩ = r := Fin.ext (by simp only [latRow]; omega)
    rw [dif_pos hr, dif_pos hr, latMerged_apply, latAttn_apply]
    simp only [lat_score_apply, joined_hi, e]
    rfl
  · have e : ctxRow ⟨(r.val - 8192) / 256, by omega⟩ ⟨(r.val - 8192) % 256, Nat.mod_lt _ (by decide)⟩ = r := Fin.ext (by simp only [ctxRow]; omega)
    rw [dif_neg hr, dif_neg hr, ctxMerged_apply, ctxAttn_apply]
    simp only [ctx_score_apply, ctxHi_apply, e]
    rfl

end Cert.Calls.MlaAttn

end
-- ==== Proof.MlaKernel.lean ====
/-
  The joint attention's kernel, block by block: the keys it keeps between the blocks of a head, and what each block of
  queries becomes.
-/
module

public import proofs.«01_k».proof.Proof.MlaRef
public import proofs.«01_k».proof.Proof.Gen.MlaAttnIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Calls.MlaAttn
open Cert.MlaAttnIdeal Cert.MlaAttnIdeal.Gen Cert.Softmax
variable (m : (ℓ : Loc nD τ sig) → Buf (Elt Ideal) ℓ)

/-- Which block every window reads at grid point `t`: nine blocks of queries (eight of the latent, one of the context)
    for each of the 16 heads of each of the 4 sequences. -/
theorem idx : ∀ t : Fin cfg0.N, win0_0.index t = ![if t.val % 9 < 8 then 8 * (t.val / 144) + t.val % 9 else 32 + t.val / 144, t.val / 9 % 16]
    ∧ win0_1.index t = ![t.val / 144, 2 * (t.val / 9 % 16)]
    ∧ win0_2.index t = ![t.val / 144, 2 * (t.val / 9 % 16) + 1]
    ∧ win0_3.index t = ![t.val / 144, 0]
    ∧ win0_4.index t = ![32 + t.val / 144, 2 * (t.val / 9 % 16)]
    ∧ win0_5.index t = ![32 + t.val / 144, 2 * (t.val / 9 % 16) + 1]
    ∧ win0_6.index t = ![32 + t.val / 144, 0]
    ∧ win0_7.index t = ![if t.val % 9 < 8 then 8 * (t.val / 144) + t.val % 9 else 32 + t.val / 144, t.val / 9 % 16]
    ∧ t.val < 576 :=
  (by decide +kernel : ∀ t : Fin grid0.N, _)

/-- The sequence of grid point `t`. -/
def seq (t : Fin cfg0.N) : Fin 4 := ⟨t.val / 144, by have := (idx t).2.2.2.2.2.2.2.2; omega⟩

/-- The head of grid point `t`. -/
def head (t : Fin cfg0.N) : Fin 16 := ⟨t.val / 9 % 16, Nat.mod_lt _ (by decide)⟩

/-- The keys of a sequence's head, the head's own columns and then the shared ones. -/
def keys (kv : FVec Ideal S9216x4096 .bf16) (kpe : FVec Ideal S9216x128 .bf16) (b : Fin 4) (h : Fin 16) : FVec Ideal S2304x256 .bf16 := fun y =>
  if hd : (y 1).val < 128 then kv (ix2 (keyRow b (y 0)) (col h 0 (by omega) ⟨(y 1).val, hd⟩))
  else kpe (ix2 (keyRow b (y 0)) ⟨(y 1).val - 128, by have : (y 1).val < 256 := (y 1).isLt; omega⟩)

theorem win1 (c : Dev nD) (t : Fin cfg0.N) (a : Fin 2048) (d : Fin 128) :
    X0_1 m c t (ix2 a d) = m ((c : Thread nD τ).loc main_arg1) (ix2 (latRow (seq t) a) (col (head t) 0 (by omega) d)) := by
  unfold X0_1 Pipeline.Window.fill
  rw [dif_pos (moved0_1 t _)]
  blk_point [iblk, V, idx t, latRow, seq, col, head]

theorem win2 (c : Dev nD) (t : Fin cfg0.N) (a : Fin 2048) (d : Fin 128) :
    X0_2 m c t (ix2 a d) = m ((c : Thread nD τ).loc main_arg1) (ix2 (latRow (seq t) a) (col (head t) 128 le_rfl d)) := by
  unfold X0_2 Pipeline.Window.fill
  rw [dif_pos (moved0_2 t _)]
  blk_point [iblk, V, idx t, latRow, seq, col, head]

theorem win3 (c : Dev nD) (t : Fin cfg0.N) (a : Fin 2048) (d : Fin 128) :
    X0_3 m c t (ix2 a d) = m ((c : Thread nD τ).loc main_arg2) (ix2 (latRow (seq t) a) d) := by
  unfold X0_3 Pipeline.Window.fill
  rw [dif_pos (moved0_3 t _)]
  blk_point [iblk, V, idx t, latRow, seq, col, head]

theorem win4 (c : Dev nD) (t : Fin cfg0.N) (a : Fin 256) (d : Fin 128) :
    iblk m c 4 t (ix2 a d) = m ((c : Thread nD τ).loc main_arg1) (ix2 (ctxRow (seq t) a) (col (head t) 0 (by omega) d)) := by
  blk_point [iblk, V, idx t, ctxRow, seq, col, head]

theorem win5 (c : Dev nD) (t : Fin cfg0.N) (a : Fin 256) (d : Fin 128) :
    iblk m c 5 t (ix2 a d) = m ((c : Thread nD τ).loc main_arg1) (ix2 (ctxRow (seq t) a) (col (head t) 128 le_rfl d)) := by
  blk_point [iblk, V, idx t, ctxRow, seq, col, head]

theorem win6 (c : Dev nD) (t : Fin cfg0.N) (a : Fin 256) (d : Fin 128) :
    iblk m c 6 t (ix2 a d) = m ((c : Thread nD τ).loc main_arg2) (ix2 (ctxRow (seq t) a) d) := by
  blk_point [iblk, V, idx t, ctxRow, seq, col, head]

theorem keyRow_lat (b : Fin 4) (k : Fin 2304) (n : Fin 2048) (h : k.val = n.val) : keyRow b k = latRow b n := by
  unfold keyRow
  rw [dif_pos (by omega)]
  exact Fin.ext (by simp only [latRow]; omega)

theorem keyRow_ctx (b : Fin 4) (k : Fin 2304) (n : Fin 256) (h : k.val = 2048 + n.val) : keyRow b k = ctxRow b n := by
  unfold keyRow
  rw [dif_neg (by omega)]
  exact Fin.ext (by simp only [ctxRow]; omega)

theorem keys_lo (kv kpe b h) (y : S2304x256.Idx) (ρ : Fin 9216) (d : Fin 128) (hr : keyRow b (y 0) = ρ) (hd : (y 1).val = d.val) :
    keys kv kpe b h y = kv (ix2 ρ (col h 0 (by omega) d)) := by
  unfold keys
  rw [dif_pos (by omega), hr]
  congr 2
  exact Fin.ext (by simp only [col]; omega)

theorem keys_hi (kv kpe b h) (y : S2304x256.Idx) (ρ : Fin 9216) (d : Fin 128) (hr : keyRow b (y 0) = ρ) (hd : (y 1).val = 128 + d.val) :
    keys kv kpe b h y = kpe (ix2 ρ d) := by
  unfold keys
  rw [dif_neg (by omega), hr]
  congr 2
  exact Fin.ext (by simp only []; omega)

/-- The first block of a head stores the head's keys. -/
theorem scratch_first (c : Dev nD) (t : Fin cfg0.N) (h : t.val % 9 = 0) :
    (outsAt0 m c t.val t.isLt).2 = keys (m ((c : Thread nD τ).loc main_arg1)) (m ((c : Thread nD τ).loc main_arg2)) (seq t) (head t) := by
  funext y
  rw [outsAt0_A m c t h (by omega) (by omega)]; frame_out
  canon_tiles x hx using View.cover_of_tiledBy _ ![256, 128] (by sl_kernel_rfl) y
  · obtain ⟨a, d, rfl⟩ : ∃ (a : Fin 256) (d : Fin 128), x = ix2 a d := ⟨x 0, x 1, eq_ix2 x⟩
    pointwise [k0_pay4]
    rw [win6, keys_hi _ _ _ _ y _ d (keyRow_ctx _ _ a hx0) hx1]
  · obtain ⟨a, d, rfl⟩ : ∃ (a : Fin 256) (d : Fin 128), x = ix2 a d := ⟨x 0, x 1, eq_ix2 x⟩
    pointwise [k0_pay3]
    rw [win4, keys_lo _ _ _ _ y _ d (keyRow_ctx _ _ a hx0) hx1]
  · obtain ⟨a, d, rfl⟩ : ∃ (a : Fin 2048) (d : Fin 128), x = ix2 a d := ⟨x 0, x 1, eq_ix2 x⟩
    pointwise [k0_pay2]
    rw [win3, keys_hi _ _ _ _ y _ d (keyRow_lat _ _ a hx0) hx1]
  · obtain ⟨a, d, rfl⟩ : ∃ (a : Fin 2048) (d : Fin 128), x = ix2 a d := ⟨x 0, x 1, eq_ix2 x⟩
    pointwise [k0_pay1]
    rw [win1, keys_lo _ _ _ _ y _ d (keyRow_lat _ _ a hx0) hx1]

/-- The other blocks leave them. -/
theorem scratch_kept (c : Dev nD) (t : Fin cfg0.N) (h : ¬ t.val % 9 = 0) :
    (outsAt0 m c t.val t.isLt).2 = (outsAt0 m c (t.val - 1) (by omega)).2 := by
  by_cases h8 : t.val % 9 = 8
  · rw [outsAt0_C m c t h (by omega) h8]; rfl
  · rw [outsAt0_B m c t h (by omega) h8]; rfl

/-- So every block of a head finds the head's keys. -/
theorem scratch (c : Dev nD) : ∀ (n : ℕ) (hn : n < cfg0.N), (outsAt0 m c n hn).2
    = keys (m ((c : Thread nD τ).loc main_arg1)) (m ((c : Thread nD τ).loc main_arg2)) (seq ⟨n, hn⟩) (head ⟨n, hn⟩) := by
  intro n
  induction n with
  | zero => intro hn; exact scratch_first m c ⟨0, hn⟩ rfl
  | succ n ih =>
    intro hn
    by_cases h : (n + 1) % 9 = 0
    · exact scratch_first m c ⟨n + 1, hn⟩ h
    · have e := scratch_kept m c ⟨n + 1, hn⟩ h
      rw [e]
      have e1 : seq ⟨n + 1, hn⟩ = seq ⟨n, by omega⟩ := Fin.ext (by simp only [seq]; omega)
      have e2 : head ⟨n + 1, hn⟩ = head ⟨n, by omega⟩ := Fin.ext (by simp only [head]; omega)
      rw [e1, e2]
      exact ih (by omega)

/-- The scores of one block's queries against the keys in `K`. -/
def raw {n : ℕ} (q : FVec Ideal S256x256 .bf16) (K : Fin n → Fin 256 → EReal) (a : Fin 256) (k : Fin n) : EReal :=
  (∑ x : Fin 256, q (ix2 a x) * K k x) * Ideal.ofBits .f32 0x3D93CD3A#32

theorem pay5 (q : FVec Ideal S256x256 .bf16) (K : FVec Ideal S2304x256 .bf16) (v : FVec Ideal S2048x128 .bf16)
    (vc : FVec Ideal S256x128 .bf16) (a : Fin 256) (d : Fin 128) : k0_pay5 (F := Ideal) q K v vc (ix2 a d)
    = Ideal.div (∑ k, weight (raw q (fun (k : Fin 2304) x => K (ix2 k x)) a) k
        * (if h : k.val < 2048 then v (ix2 ⟨k.val, h⟩ d) else vc (ix2 ⟨k.val - 2048, by omega⟩ d)))
      (∑ j, weight (raw q (fun (k : Fin 2304) x => K (ix2 k x)) a) j) := by
  pointwise [k0_pay5]
  simp only [neg_inf]
  rfl

theorem pay6 (q K : FVec Ideal S256x256 .bf16) (vc : FVec Ideal S256x128 .bf16) (a : Fin 256) (d : Fin 128) : k0_pay6 (F := Ideal) q K vc (ix2 a d)
    = Ideal.div (∑ k, weight (raw q (fun (k : Fin 256) x => K (ix2 k x)) a) k * vc (ix2 k d))
      (∑ j, weight (raw q (fun (k : Fin 256) x => K (ix2 k x)) a) j) := by
  pointwise [k0_pay6]
  simp only [neg_inf]
  rfl

theorem sum_halves (f : Fin 256 → EReal) :
    ∑ x, f x = ∑ x : Fin 128, f ⟨0 + x.val, by omega⟩ + ∑ x : Fin 128, f ⟨128 + x.val, by omega⟩ := by
  simp only [zero_add]
  exact Fin.sum_univ_add (a := 128) (b := 128) f

/-- A block's raw score is the score of the row and the key it stands for. -/
theorem raw_eq {n : ℕ} (Q kv : FVec Ideal S9216x4096 .bf16) (kpe : FVec Ideal S9216x128 .bf16) (q : FVec Ideal S256x256 .bf16)
    (a : Fin 256) (r : Fin 9216) (h : Fin 16) (hq : ∀ x : Fin 256, q (ix2 a x) = Q (ix2 r ⟨h.val * 256 + x.val, by omega⟩))
    (K : Fin n → Fin 256 → EReal) (ρ : Fin n → Fin 9216)
    (hK : ∀ k x, K k x = if hd : x.val < 128 then kv (ix2 (ρ k) (col h 0 (by omega) ⟨x.val, hd⟩)) else kpe (ix2 (ρ k) ⟨x.val - 128, by omega⟩))
    (k : Fin n) : raw q K a k = score Q kv kpe h r (ρ k) := by
  unfold raw score
  rw [sum_halves]
  congr 2
  · refine Finset.sum_congr rfl fun x _ => ?_
    rw [hq, hK, dif_pos (show (0 + x.val) < 128 by omega)]
    simp only [col, zero_add]
  · refine Finset.sum_congr rfl fun x _ => ?_
    rw [hq, hK, dif_neg (show ¬ (128 + x.val) < 128 by omega)]
    simp only [col, Nat.add_sub_cancel_left]

/-- The row a block's query stands for. -/
def qrow (t : Fin cfg0.N) (a : Fin 256) : Fin 9216 :=
  ⟨if t.val % 9 < 8 then t.val / 144 * 2048 + (t.val % 9 * 256 + a.val) else 8192 + (t.val / 144 * 256 + a.val), by
    have := (idx t).2.2.2.2.2.2.2.2; split <;> omega⟩

theorem win0 (c : Dev nD) (t : Fin cfg0.N) (a : Fin 256) (x : Fin 256) :
    iblk m c 0 t (ix2 a x) = m ((c : Thread nD τ).loc main_arg0) (ix2 (qrow t a) ⟨(head t).val * 256 + x.val, by have := (head t).isLt; omega⟩) := by
  blk_point [iblk, V, idx t, qrow, head]
  split <;> omega

theorem out_first (c : Dev nD) (t : Fin cfg0.N) (h : t.val % 9 = 0) : (outsAt0 m c t.val t.isLt).1
    = k0_pay5 (iblk m c 0 t) (outsAt0 m c t.val t.isLt).2 (X0_2 m c t) (iblk m c 5 t) := by
  funext y
  rw [outsAt0_A m c t h (by omega) (by omega)]; frame_out
  rw [View.readCov_eq_canon']
  refine congrArg (fun K => k0_pay5 _ K _ _ y) (funext fun j => congrArg _ ?_)
  funext a
  fin_cases a <;> exact Fin.ext (by simp)

theorem out_lat (c : Dev nD) (t : Fin cfg0.N) (h : ¬ t.val % 9 = 0) (h8 : ¬ t.val % 9 = 8) : (outsAt0 m c t.val t.isLt).1
    = k0_pay5 (iblk m c 0 t) (outsAt0 m c t.val t.isLt).2 (X0_2 m c t) (iblk m c 5 t) := by
  rw [scratch_kept m c t h]
  funext y
  rw [outsAt0_B m c t h (by omega) h8]; frame_out
  rw [read_unread_whole]

theorem out_ctx (c : Dev nD) (t : Fin cfg0.N) (h8 : t.val % 9 = 8) (a d) : (outsAt0 m c t.val t.isLt).1 (ix2 a d)
    = k0_pay6 (iblk m c 0 t) (fun y => (outsAt0 m c t.val t.isLt).2 (ix2 ⟨2048 + (y 0).val, by have : (y 0).val < 256 := (y 0).isLt; omega⟩ (y 1))) (iblk m c 5 t) (ix2 a d) := by
  rw [scratch_kept m c t (by omega)]
  rw [outsAt0_C m c t (by omega) (by omega) h8]; frame_out
  rw [read_unread_whole]
  refine congrArg (fun K => k0_pay6 _ K _ (ix2 a d)) (funext fun y => congrArg (outsAt0 m c (t.val - 1) (by omega)).2 ?_)
  funext a
  fin_cases a <;> exact Fin.ext (by simp)

variable (Q kv : FVec Ideal S9216x4096 .bf16) (kpe : FVec Ideal S9216x128 .bf16)

/-- The argument the claim asks for: no entry is infinite. -/
def Finite : Prop := (∀ i, IsNum (Q i)) ∧ (∀ i, IsNum (kv i)) ∧ ∀ i, IsNum (kpe i)

theorem score_num (hf : Finite Q kv kpe) (h r ρ) : IsNum (score Q kv kpe h r ρ) :=
  ((IsNum.sum _ fun d => (hf.1 _).mul (hf.2.1 _)).add (IsNum.sum _ fun d => (hf.1 _).mul (hf.2.2 _))).mul isNum_scale

theorem block_lat (c : Dev nD) (t : Fin cfg0.N) (h8 : t.val % 9 < 8)
    (hf : Finite (m ((c : Thread nD τ).loc main_arg0)) (m ((c : Thread nD τ).loc main_arg1)) (m ((c : Thread nD τ).loc main_arg2))) (a d) :
    (outsAt0 m c t.val t.isLt).1 (ix2 a d)
      = latOut (m ((c : Thread nD τ).loc main_arg0)) (m ((c : Thread nD τ).loc main_arg1)) (m ((c : Thread nD τ).loc main_arg2)) (seq t) (head t) (qrow t a) d := by
  have e : (outsAt0 m c t.val t.isLt).1 = k0_pay5 (iblk m c 0 t) (outsAt0 m c t.val t.isLt).2 (X0_2 m c t) (iblk m c 5 t) := by
    by_cases h : t.val % 9 = 0
    · exact out_first m c t h
    · exact out_lat m c t h (by omega)
  rw [e, pay5]
  have es : raw (iblk m c 0 t) (fun (k : Fin 2304) x => (outsAt0 m c t.val t.isLt).2 (ix2 k x)) a
      = fun k => score (m ((c : Thread nD τ).loc main_arg0)) (m ((c : Thread nD τ).loc main_arg1)) (m ((c : Thread nD τ).loc main_arg2)) (head t) (qrow t a) (keyRow (seq t) k) := by
    funext k
    refine raw_eq _ _ _ _ a _ _ (fun x => win0 m c t a x) _ (keyRow (seq t)) (fun k x => ?_) k
    rw [scratch m c t.val t.isLt]
    rfl
  have ev : (fun k : Fin 2304 => if h : k.val < 2048 then X0_2 m c t (ix2 ⟨k.val, h⟩ d) else iblk m c 5 t (ix2 ⟨k.val - 2048, by omega⟩ d))
      = fun k => m ((c : Thread nD τ).loc main_arg1) (ix2 (keyRow (seq t) k) (col (head t) 128 le_rfl d)) := by
    funext k
    split
    · rename_i hk
      rw [win2, keyRow_lat (seq t) k ⟨k.val, hk⟩ rfl]
    · rename_i hk
      rw [win5, keyRow_ctx (seq t) k ⟨k.val - 2048, by omega⟩ (by simp only []; omega)]
  rw [es, latOut, ← ev]
  exact div_sum_eq_attend (by decide) _ _ fun k => score_num _ _ _ hf _ _ _

theorem block_ctx (c : Dev nD) (t : Fin cfg0.N) (h8 : t.val % 9 = 8)
    (hf : Finite (m ((c : Thread nD τ).loc main_arg0)) (m ((c : Thread nD τ).loc main_arg1)) (m ((c : Thread nD τ).loc main_arg2))) (a d) :
    (outsAt0 m c t.val t.isLt).1 (ix2 a d)
      = ctxOut (m ((c : Thread nD τ).loc main_arg0)) (m ((c : Thread nD τ).loc main_arg1)) (m ((c : Thread nD τ).loc main_arg2)) (seq t) (head t) (qrow t a) d := by
  rw [out_ctx m c t h8, pay6]
  have es : raw (iblk m c 0 t) (fun (k : Fin 256) x => (outsAt0 m c t.val t.isLt).2 (ix2 (⟨2048 + k.val, by omega⟩ : Fin 2304) x)) a
      = fun k => score (m ((c : Thread nD τ).loc main_arg0)) (m ((c : Thread nD τ).loc main_arg1)) (m ((c : Thread nD τ).loc main_arg2)) (head t) (qrow t a) (ctxRow (seq t) k) := by
    funext k
    refine raw_eq _ _ _ _ a _ _ (fun x => win0 m c t a x) _ (ctxRow (seq t)) (fun k x => ?_) k
    rw [scratch m c t.val t.isLt, ← keyRow_ctx (seq t) ⟨2048 + k.val, by omega⟩ k rfl]
    rfl
  have ev : (fun k : Fin 256 => iblk m c 5 t (ix2 k d))
      = fun k => m ((c : Thread nD τ).loc main_arg1) (ix2 (ctxRow (seq t) k) (col (head t) 128 le_rfl d)) :=
    funext fun k => win5 m c t k d
  rw [ctxOut, ← es, ← ev]
  refine div_sum_eq_attend (by decide) _ _ fun k => ?_
  refine Eq.mpr (congrArg IsNum (congrFun es k)) ?_
  exact score_num _ _ _ hf _ _ _

/-- A block of the result. -/
theorem point (c : Dev nD) (t : Fin cfg0.N)
    (hf : Finite (m ((c : Thread nD τ).loc main_arg0)) (m ((c : Thread nD τ).loc main_arg1)) (m ((c : Thread nD τ).loc main_arg2))) (y : S256x128.Idx) :
    (outsAt0 m c t.val t.isLt).1 y = spec (m ((c : Thread nD τ).loc main_arg0)) (m ((c : Thread nD τ).loc main_arg1))
      (m ((c : Thread nD τ).loc main_arg2)) (((cfg0.win 7).blk t).view.emb y) := by
  obtain ⟨a, d, rfl⟩ : ∃ (a : Fin 256) (d : Fin 128), y = ix2 a d := ⟨y 0, y 1, eq_ix2 y⟩
  have e : ((cfg0.win 7).blk t).view.emb (ix2 a d) = ix2 (qrow t a) (⟨(head t).val * 128 + d.val, by have := (head t).isLt; omega⟩ : Fin 2048) := by
    blk_point [idx t, qrow, head]
    split <;> omega
  have eh : (⟨((head t).val * 128 + d.val) / 128, by have := (head t).isLt; omega⟩ : Fin 16) = head t := Fin.ext (by simp only []; omega)
  have ed : (⟨((head t).val * 128 + d.val) % 128, Nat.mod_lt _ (by decide)⟩ : Fin 128) = d := Fin.ext (by simp only []; omega)
  rw [e, spec_apply]
  have ht := (idx t).2.2.2.2.2.2.2.2
  by_cases h8 : t.val % 9 < 8
  · have hv : (qrow t a).val = t.val / 144 * 2048 + (t.val % 9 * 256 + a.val) := if_pos h8
    have es : (⟨(qrow t a).val / 2048, by have := (qrow t a).isLt; omega⟩ : Fin 4) = seq t := Fin.ext (by simp only [seq]; omega)
    rw [dif_pos (by omega), block_lat m c t h8 hf]
    simp only [eh, ed, es]
  · have hv : (qrow t a).val = 8192 + (t.val / 144 * 256 + a.val) := if_neg h8
    have es : (⟨((qrow t a).val - 8192) / 256, by have := (qrow t a).isLt; omega⟩ : Fin 4) = seq t := Fin.ext (by simp only [seq]; omega)
    rw [dif_neg (by omega), block_ctx m c t (by omega) hf]
    simp only [eh, ed, es]

theorem final (c : Dev nD)
    (hf : Finite (m ((c : Thread nD τ).loc main_arg0)) (m ((c : Thread nD τ).loc main_arg1)) (m ((c : Thread nD τ).loc main_arg2))) :
    (dats m 0 c).arrAt 7 (cfgs 0).N = spec (m ((c : Thread nD τ).loc main_arg0)) (m ((c : Thread nD τ).loc main_arg1))
      (m ((c : Thread nD τ).loc main_arg2)) := by
  refine (dats m 0 c).arrAt_eq_of_covers 7 _ (by decide +kernel) fun t _ y => ?_
  blk_simp
  rw [after0_7]
  exact point m c t hf y

end Cert.Calls.MlaAttn

end
-- ==== Proof.MlaAttn.lean ====
/-
  The joint attention: the kernel and the reference compute the same, on numbers.
-/
module

public import proofs.«01_k».proof.Proof.MlaKernel
public import proofs.«01_k».proof.Defs
public import proofs.«01_k».proof.Proof.Gen.MlaAttn.Frame
public import proofs.«01_k».proof.Proof.Gen.MlaAttnRefIdeal
public import proofs.«01_k».proof.Proof.Gen.Pre_finite
public import Idealize.ShloMosaic.Lib.Claim

@[expose] public section

set_option maxRecDepth 16384

noncomputable section

open Idealize.ShloMosaic Idealize.ShloMosaic.TcCoe Idealize.SL.Sem

namespace Cert.Calls.MlaAttn

open Cert.Softmax

/-- The precondition on one argument: every entry's absolute value is below +∞. -/
theorem num_of_entry {sh u : Shape} {dims : Fin u.rank → Fin sh.rank} (t : FVec Ideal sh .bf16) (hb : u.BroadcastsInDim sh dims)
    (h : cmpf .olt (Host.absf t) (broadcastInDim sh dims hb (constant (F := Ideal) u .bf16 0x7F80#16)) = fun _ => 1#1) (i : sh.Idx) :
    IsNum (t i) := by
  have e : Ideal.cmp .olt (max (t i) (-(t i))) (Ideal.ofBits .bf16 0x7F80#16) = 1#1 := congrFun h i
  have et : Ideal.ofBits .bf16 0x7F80#16 = ⊤ := by simp [Ideal.ofBits, Ideal.ieee]
  rw [et] at e
  refine isNum_of_abs_lt ?_
  by_contra hn
  simp [Ideal.cmp, hn] at e

theorem finite_of_pre [Cert.Pre_finite.Facts] (m) (h : Cert.Pre_MlaAttnIdeal_finite m) (c : Dev MlaAttnIdeal.nD) :
    Finite (m ((c : Thread MlaAttnIdeal.nD MlaAttnIdeal.τ).loc MlaAttnIdeal.main_arg0))
      (m ((c : Thread MlaAttnIdeal.nD MlaAttnIdeal.τ).loc MlaAttnIdeal.main_arg1))
      (m ((c : Thread MlaAttnIdeal.nD MlaAttnIdeal.τ).loc MlaAttnIdeal.main_arg2)) :=
  ⟨num_of_entry _ _ (h c).1, num_of_entry _ _ (h c).2.1, num_of_entry _ _ (h c).2.2⟩

/-- THE CLAIM. -/
theorem algebraic : Cert.algebraic_MlaAttnIdeal_MlaAttnRefIdeal_pre_finite := by
  pair_intro
  · run_from Cert.MlaAttnIdeal.Gen.run_main m g
  · hlo_run
    refine Eq.trans ?_ (final m c (finite_of_pre m (by assumption) c)).symm
    refine Eq.trans ?_ (term_eq _ _ _)
    rw [(hagree c).2.2]
    rfl

end Cert.Calls.MlaAttn

end
-- ==== Proof.Stream.lean ====
/-
  What the calls on the stream of rows have in common: the rows, their modulation, and the two products.
-/
module

public import proofs.«01_k».proof.Defs
public import Idealize.ShloMosaic.Lib.Pipeline.ValueKit
public import Idealize.ShloMosaic.Lib.Pointwise
public import Idealize.ShloMosaic.PureOps.Ideal.Laws

@[expose] public section

noncomputable section

open Idealize.ShloMosaic Idealize.ShloMosaic.TcCoe

namespace Cert.Stream

/-- An array of `a` rows and `b` columns. -/
abbrev Mat (a b : ℕ) (t : FTy) : Type := FVec Ideal ⟨2, ![a, b]⟩ t

/-- The modulations of a layer: six vectors of 2048 for each sequence of the batch, and for the context. -/
abbrev Mods : Type := FVec Ideal ⟨3, ![8, 1, 12288]⟩ .f32

/-- The stream's row `r` belongs to sequence `r / 2048` of the batch; the context's rows share modulation row 4. -/
def modRow {R : ℕ} (r : Fin R) : Fin 8 := ⟨min (r.val / 2048) 4, by omega⟩

/-- Row `r` of the stream over the root of its mean square plus `eps`, times the gain, scaled and shifted by the
    modulation of its sequence, at column `k`. The shift starts at column `sh` of the modulations, the scale at `sc`. -/
def modulated {R : ℕ} (sh sc : ℕ) (hsh : sh ≤ 10240) (hsc : sc ≤ 10240) (x : Mat R 2048 .f32) (g : FVec Ideal ⟨1, ![2048]⟩ .f32)
    (mods : Mods) (r : Fin R) (k : Fin 2048) : EReal :=
  x (ix2 r k)
      * Ideal.rsqrt (Ideal.div (∑ k : Fin 2048, x (ix2 r k) * x (ix2 r k)) (Ideal.ofBits FTy.f32 0x45000000#32)
          + Ideal.ofBits FTy.f32 0x358637BD#32)
      * g (ix1 k)
      * (Ideal.ofBits FTy.f32 0x3F800000#32 + mods (ix3 (modRow r) 0 ⟨sc + k.val, by omega⟩))
    + mods (ix3 (modRow r) 0 ⟨sh + k.val, by omega⟩)

/-- The product of the rows `h` and the weights. -/
def product {R n : ℕ} (t : FTy) (h : Fin R → Fin 2048 → EReal) (w : Mat 2048 n .f32) : Mat R n t := fun i =>
  ∑ k : Fin 2048, h (i 0) k * w (ix2 k (i 1))

/-- `x + gate · (a @ w)`: what a part of a layer adds to the stream, in its first `R` rows. The gate starts at column `gc`
    of the modulations. -/
def addGated {A R n : ℕ} (gc : ℕ) (hgc : gc ≤ 10240) (hR : R ≤ A) (a : Mat A n .bf16) (w : Mat n 2048 .f32)
    (x : Mat A 2048 .f32) (mods : Mods) : Mat R 2048 .f32 := fun i =>
  x (ix2 ⟨(i 0).val, (i 0).isLt.trans_le hR⟩ (i 1))
    + mods (ix3 (modRow (i 0)) 0 ⟨gc + (i 1).val, by have : (i 1).val < 2048 := (i 1).isLt; omega⟩)
      * ∑ k : Fin n, a (ix2 ⟨(i 0).val, (i 0).isLt.trans_le hR⟩ k) * w (ix2 k (i 1))

/-- The exact GELU: `½ · z · (1 + erf (z · √½))`, with the root as its rounded literal. -/
def gelu (z : EReal) : EReal :=
  Ideal.ofBits FTy.f32 0x3F000000#32 * z
    * (1 + Ideal.erf (z * Ideal.ofBits FTy.f32 0x3F3504F3#32))

/-- The same function, written with the complementary error function. -/
theorem gelu_erfc (z : EReal) : Ideal.ofBits FTy.f32 0x3F000000#32 * z
    * Ideal.erfc (-z * Ideal.ofBits FTy.f32 0x3F3504F3#32) = gelu z := by
  rw [gelu, neg_mul, Ideal.erfc_neg]

/-- A latent row, found again from its sequence and its place there. -/
theorem lat_row (r : ℕ) : r / 2048 * 2048 + r % 2048 = r := by omega

theorem lat_mod (r : ℕ) (h : r < 8192) : min (r / 2048) 4 = r / 2048 := by omega

/-- A context row, found again from its sequence and its place there. -/
theorem ctx_row (r : ℕ) (h : ¬ r < 8192) : 8192 + ((r - 8192) / 256 * 256 + (r - 8192) % 256) = r := by omega

theorem ctx_mod (r : ℕ) (h : ¬ r < 8192) : min (r / 2048) 4 = 4 := by omega

/-- What the first of every `p` grid points stores and the others keep is what the first stored. -/
theorem kept {α : Type} (p N : ℕ) (f : ∀ n, n < N → α) (v : ∀ n, n < N → α)
    (first : ∀ n hn, n % p = 0 → f n hn = v n hn)
    (next : ∀ n (hn : n + 1 < N), ¬ (n + 1) % p = 0 → f (n + 1) hn = f n (by omega))
    (same : ∀ n (hn : n + 1 < N), ¬ (n + 1) % p = 0 → v (n + 1) hn = v n (by omega)) : ∀ n hn, f n hn = v n hn := by
  intro n
  induction n with
  | zero => intro hn; exact first 0 hn (Nat.zero_mod p)
  | succ n ih =>
    intro hn
    by_cases h : (n + 1) % p = 0
    · exact first (n + 1) hn h
    · rw [next n hn h, same n hn h, ih]

end Cert.Stream

end
-- ==== Proof.FfnIn.lean ====
/-
  `ffn_in`: the stream, normalised and modulated, times the input weights of the feed-forward part.
-/
module

public import proofs.«01_k».proof.Defs
public import proofs.«01_k».proof.Proof.Gen.FfnIn.Frame
public import proofs.«01_k».proof.Proof.Gen.FfnInIdeal.Frame
public import proofs.«01_k».proof.Proof.Gen.FfnInIdeal.Value
public import proofs.«01_k».proof.Proof.Gen.FfnInRefIdeal
public import proofs.«01_k».proof.Proof.Stream
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.FfnIn

open Cert.Stream

section Kernel
open Cert.FfnInIdeal Cert.FfnInIdeal.Gen
variable (m : (ℓ : Loc nD τ sig) → Buf (Elt Ideal) ℓ)

/-- Which block every window reads at grid point `t`: 22 blocks of columns for each of 18 blocks of rows. -/
theorem idx : ∀ t : Fin cfg0.N, win0_0.index t = ![t.val / 22, 0] ∧ win0_1.index t = ![0, 0]
    ∧ win0_2.index t = ![min (t.val / 88) 4, 0, 3] ∧ win0_3.index t = ![min (t.val / 88) 4, 0, 4]
    ∧ win0_4.index t = ![0, t.val % 22] ∧ win0_5.index t = ![t.val / 22, t.val % 22] ∧ t.val < 396 :=
  (by decide +kernel : ∀ t : Fin grid0.N, _)

/-- The gain is handed to the call as one row. -/
theorem gain (c : Dev nD) (i) : V m c main_v1 i = m ((c : Thread nD τ).loc main_arg1) (ix1 (i 1)) := by
  entry_read
  pointwise []

/-- The weights are handed to the call in a narrower type, which over the reals changes nothing. -/
theorem weights (c : Dev nD) (i) : V m c main_v0 i = m ((c : Thread nD τ).loc main_arg3) i := by
  entry_read
  pointwise []

/-- The row of the stream that row `a` of the block at grid point `t` stands for. -/
def row (t : Fin cfg0.N) (a : Fin 512) : Fin 9216 :=
  ⟨t.val / 22 * 512 + a.val, by have := (idx t).2.2.2.2.2.2; omega⟩

/-- The first block of columns stores the block's modulated rows. -/
theorem scratch_first (c : Dev nD) (t : Fin cfg0.N) (h : t.val % 22 = 0) (a : Fin 512) (k : Fin 2048) :
    (outsAt0 m c t.val t.isLt).2 (ix2 a k) = modulated 6144 8192 (by omega) (by omega) (m ((c : Thread nD τ).loc main_arg0))
      (m ((c : Thread nD τ).loc main_arg1)) (m ((c : Thread nD τ).loc main_arg2)) (row t a) k := by
  rw [outsAt0_A m c t h]; frame_out
  pointwise [k0_pay1, modulated]
  blk_point [iblk, gain m c, V_main_arg0, V_main_arg2, idx t, row, modRow]

/-- The other blocks of columns leave them. -/
theorem scratch_kept (c : Dev nD) (t : Fin cfg0.N) (h : ¬ t.val % 22 = 0) :
    (outsAt0 m c t.val t.isLt).2 = (outsAt0 m c (t.val - 1) (by omega)).2 := by
  rw [outsAt0_B m c t h]; rfl

/-- So every block of columns finds the modulated rows. -/
theorem scratch (c : Dev nD) (a : Fin 512) (k : Fin 2048) : ∀ (n : ℕ) (hn : n < cfg0.N), (outsAt0 m c n hn).2 (ix2 a k)
    = modulated 6144 8192 (by omega) (by omega) (m ((c : Thread nD τ).loc main_arg0)) (m ((c : Thread nD τ).loc main_arg1))
        (m ((c : Thread nD τ).loc main_arg2)) (row ⟨n, hn⟩ a) k :=
  kept 22 cfg0.N _ _ (fun n hn h => scratch_first m c ⟨n, hn⟩ h a k)
    (fun n hn h => congrFun (scratch_kept m c ⟨n + 1, hn⟩ h) (ix2 a k))
    fun n hn h => congrArg (fun r => modulated 6144 8192 (by omega) (by omega) _ _ _ r k) (Fin.ext (by simp only [row]; omega))

/-- Every block of the result is the product of the kept rows and the block's columns. -/
theorem out (c : Dev nD) (t : Fin cfg0.N) (y) : (outsAt0 m c t.val t.isLt).1 y
    = k0_pay2 (outsAt0 m c t.val t.isLt).2 (iblk m c 4 t) y := by
  by_cases h : t.val % 22 = 0
  · rw [outsAt0_A m c t h]; frame_out
  · rw [scratch_kept m c t h, outsAt0_B m c t h]; frame_out
    rw [read_unread_whole]

/-- A block of the result. -/
theorem point (c : Dev nD) (t : Fin cfg0.N) (y : S512x512.Idx) : (outsAt0 m c t.val t.isLt).1 y
    = product .f32 (modulated 6144 8192 (by omega) (by omega) (m ((c : Thread nD τ).loc main_arg0)) (m ((c : Thread nD τ).loc main_arg1))
        (m ((c : Thread nD τ).loc main_arg2))) (m ((c : Thread nD τ).loc main_arg3)) (((cfg0.win 5).blk t).view.emb y) := by
  obtain ⟨a, j, rfl⟩ : ∃ (a : Fin 512) (j : Fin 512), y = ix2 a j := ⟨y 0, y 1, eq_ix2 y⟩
  have e : ((cfg0.win 5).blk t).view.emb (ix2 a j) = ix2 (row t a) (⟨t.val % 22 * 512 + j.val, by omega⟩ : Fin 11264) := by
    blk_point [idx t, row]
  rw [out, e]
  pointwise [k0_pay2, product]
  refine Finset.sum_congr rfl fun k _ => ?_
  rw [scratch]
  blk_point [iblk, weights m c, idx t]

theorem final (c : Dev nD) : (dats m 0 c).arrAt 5 (cfgs 0).N
    = product .f32 (modulated 6144 8192 (by omega) (by omega) (m ((c : Thread nD τ).loc main_arg0)) (m ((c : Thread nD τ).loc main_arg1))
        (m ((c : Thread nD τ).loc main_arg2))) (m ((c : Thread nD τ).loc main_arg3)) := by
  refine (dats m 0 c).arrAt_eq_of_covers 5 _ (by decide +kernel) fun t _ y => ?_
  blk_simp
  rw [after0_5]
  exact point m c t y

end Kernel

theorem algebraic : Cert.algebraic_FfnInIdeal_FfnInRefIdeal := by
  pair_intro
  · run_from Cert.FfnInIdeal.Gen.run_main m g
  · hlo_run
    refine Eq.trans ?_ (final m c).symm
    funext i
    obtain ⟨r, j, rfl⟩ : ∃ (r : Fin 9216) (j : Fin 11264), i = ix2 r j := ⟨i 0, i 1, eq_ix2 i⟩
    pointwise [product, modulated]
    simp only [(hagree c).2.2.2, modRow]
    split
    · rename_i h
      simp only [lat_row, lat_mod _ h, Fin.eta]
    · rename_i h
      simp only [ctx_row _ h, ctx_mod _ h, Fin.eta]
      rfl

end Cert.Calls.FfnIn

end
-- ==== Proof.NaQkv.lean ====
/-
  `na_qkv`: the stream, normalised and modulated, times the weights of the neighborhood attention's queries, keys and
  values.
-/
module

public import proofs.«01_k».proof.Defs
public import proofs.«01_k».proof.Proof.Gen.NaQkv.Frame
public import proofs.«01_k».proof.Proof.Gen.NaQkvIdeal.Frame
public import proofs.«01_k».proof.Proof.Gen.NaQkvIdeal.Value
public import proofs.«01_k».proof.Proof.Gen.NaQkvRefIdeal
public import proofs.«01_k».proof.Proof.Stream
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.NaQkv

open Cert.Stream

section Kernel
open Cert.NaQkvIdeal Cert.NaQkvIdeal.Gen
variable (m : (ℓ : Loc nD τ sig) → Buf (Elt Ideal) ℓ)

/-- Which block every window reads at grid point `t`: 12 blocks of columns for each of 18 blocks of rows. -/
theorem idx : ∀ t : Fin cfg0.N, win0_0.index t = ![t.val / 12, 0] ∧ win0_1.index t = ![0, 0]
    ∧ win0_2.index t = ![min (t.val / 48) 4, 0, 0] ∧ win0_3.index t = ![min (t.val / 48) 4, 0, 1]
    ∧ win0_4.index t = ![0, t.val % 12] ∧ win0_5.index t = ![t.val / 12, t.val % 12] ∧ t.val < 216 :=
  (by decide +kernel : ∀ t : Fin grid0.N, _)

/-- The gain is handed to the call as one row. -/
theorem gain (c : Dev nD) (i) : V m c main_v1 i = m ((c : Thread nD τ).loc main_arg1) (ix1 (i 1)) := by
  entry_read
  pointwise []

/-- The weights are handed to the call in a narrower type, which over the reals changes nothing. -/
theorem weights (c : Dev nD) (i) : V m c main_v0 i = m ((c : Thread nD τ).loc main_arg3) i := by
  entry_read
  pointwise []

/-- The row of the stream that row `a` of the block at grid point `t` stands for. -/
def row (t : Fin cfg0.N) (a : Fin 512) : Fin 9216 :=
  ⟨t.val / 12 * 512 + a.val, by have := (idx t).2.2.2.2.2.2; omega⟩

/-- The first block of columns stores the block's modulated rows. -/
theorem scratch_first (c : Dev nD) (t : Fin cfg0.N) (h : t.val % 12 = 0) (a : Fin 512) (k : Fin 2048) :
    (outsAt0 m c t.val t.isLt).2 (ix2 a k) = modulated 0 2048 (by omega) (by omega) (m ((c : Thread nD τ).loc main_arg0))
      (m ((c : Thread nD τ).loc main_arg1)) (m ((c : Thread nD τ).loc main_arg2)) (row t a) k := by
  rw [outsAt0_A m c t h]; frame_out
  pointwise [k0_pay1, modulated]
  blk_point [iblk, gain m c, V_main_arg0, V_main_arg2, idx t, row, modRow]

/-- The other blocks of columns leave them. -/
theorem scratch_kept (c : Dev nD) (t : Fin cfg0.N) (h : ¬ t.val % 12 = 0) :
    (outsAt0 m c t.val t.isLt).2 = (outsAt0 m c (t.val - 1) (by omega)).2 := by
  rw [outsAt0_B m c t h]; rfl

/-- So every block of columns finds the modulated rows. -/
theorem scratch (c : Dev nD) (a : Fin 512) (k : Fin 2048) : ∀ (n : ℕ) (hn : n < cfg0.N), (outsAt0 m c n hn).2 (ix2 a k)
    = modulated 0 2048 (by omega) (by omega) (m ((c : Thread nD τ).loc main_arg0)) (m ((c : Thread nD τ).loc main_arg1))
        (m ((c : Thread nD τ).loc main_arg2)) (row ⟨n, hn⟩ a) k :=
  kept 12 cfg0.N _ _ (fun n hn h => scratch_first m c ⟨n, hn⟩ h a k)
    (fun n hn h => congrFun (scratch_kept m c ⟨n + 1, hn⟩ h) (ix2 a k))
    fun n hn h => congrArg (fun r => modulated 0 2048 (by omega) (by omega) _ _ _ r k) (Fin.ext (by simp only [row]; omega))

/-- Every block of the result is the product of the kept rows and the block's columns. -/
theorem out (c : Dev nD) (t : Fin cfg0.N) (y) : (outsAt0 m c t.val t.isLt).1 y
    = k0_pay2 (outsAt0 m c t.val t.isLt).2 (iblk m c 4 t) y := by
  by_cases h : t.val % 12 = 0
  · rw [outsAt0_A m c t h]; frame_out
  · rw [scratch_kept m c t h, outsAt0_B m c t h]; frame_out
    rw [read_unread_whole]

/-- A block of the result. -/
theorem point (c : Dev nD) (t : Fin cfg0.N) (y : S512x512.Idx) : (outsAt0 m c t.val t.isLt).1 y
    = product .bf16 (modulated 0 2048 (by omega) (by omega) (m ((c : Thread nD τ).loc main_arg0)) (m ((c : Thread nD τ).loc main_arg1))
        (m ((c : Thread nD τ).loc main_arg2))) (m ((c : Thread nD τ).loc main_arg3)) (((cfg0.win 5).blk t).view.emb y) := by
  obtain ⟨a, j, rfl⟩ : ∃ (a : Fin 512) (j : Fin 512), y = ix2 a j := ⟨y 0, y 1, eq_ix2 y⟩
  have e : ((cfg0.win 5).blk t).view.emb (ix2 a j) = ix2 (row t a) (⟨t.val % 12 * 512 + j.val, by omega⟩ : Fin 6144) := by
    blk_point [idx t, row]
  rw [out, e]
  pointwise [k0_pay2, product]
  refine Finset.sum_congr rfl fun k _ => ?_
  rw [scratch]
  blk_point [iblk, weights m c, idx t]

theorem final (c : Dev nD) : (dats m 0 c).arrAt 5 (cfgs 0).N
    = product .bf16 (modulated 0 2048 (by omega) (by omega) (m ((c : Thread nD τ).loc main_arg0)) (m ((c : Thread nD τ).loc main_arg1))
        (m ((c : Thread nD τ).loc main_arg2))) (m ((c : Thread nD τ).loc main_arg3)) := by
  refine (dats m 0 c).arrAt_eq_of_covers 5 _ (by decide +kernel) fun t _ y => ?_
  blk_simp
  rw [after0_5]
  exact point m c t y

end Kernel

theorem algebraic : Cert.algebraic_NaQkvIdeal_NaQkvRefIdeal := by
  pair_intro
  · run_from Cert.NaQkvIdeal.Gen.run_main m g
  · hlo_run
    refine Eq.trans ?_ (final m c).symm
    funext i
    obtain ⟨r, j, rfl⟩ : ∃ (r : Fin 9216) (j : Fin 6144), i = ix2 r j := ⟨i 0, i 1, eq_ix2 i⟩
    rw [truncf_apply]
    pointwise [product, modulated]
    simp only [(hagree c).2.2.2, modRow]
    split
    · rename_i h
      simp only [lat_row, lat_mod _ h, Fin.eta]
    · rename_i h
      simp only [ctx_row _ h, ctx_mod _ h, Fin.eta]
      rfl

end Cert.Calls.NaQkv

end
-- ==== Proof.MlaIn.lean ====
/-
  `mla_in`: the stream, normalised and modulated, times the input weights of the latent attention.
-/
module

public import proofs.«01_k».proof.Defs
public import proofs.«01_k».proof.Proof.Gen.MlaIn.Frame
public import proofs.«01_k».proof.Proof.Gen.MlaInIdeal.Frame
public import proofs.«01_k».proof.Proof.Gen.MlaInIdeal.Value
public import proofs.«01_k».proof.Proof.Gen.MlaInRefIdeal
public import proofs.«01_k».proof.Proof.Stream
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.MlaIn

open Cert.Stream

section Kernel
open Cert.MlaInIdeal Cert.MlaInIdeal.Gen
variable (m : (ℓ : Loc nD τ sig) → Buf (Elt Ideal) ℓ)

/-- Which block every window reads at grid point `t`: 2 blocks of columns for each of 18 blocks of rows. -/
theorem idx : ∀ t : Fin cfg0.N, win0_0.index t = ![t.val / 2, 0] ∧ win0_1.index t = ![0, 0]
    ∧ win0_2.index t = ![min (t.val / 8) 4, 0, 0] ∧ win0_3.index t = ![min (t.val / 8) 4, 0, 1]
    ∧ win0_4.index t = ![0, t.val % 2] ∧ win0_5.index t = ![t.val / 2, t.val % 2] ∧ t.val < 36 :=
  (by decide +kernel : ∀ t : Fin grid0.N, _)

/-- The gain is handed to the call as one row. -/
theorem gain (c : Dev nD) (i) : V m c main_v1 i = m ((c : Thread nD τ).loc main_arg1) (ix1 (i 1)) := by
  entry_read
  pointwise []

/-- The weights are handed to the call in a narrower type, which over the reals changes nothing. -/
theorem weights (c : Dev nD) (i) : V m c main_v0 i = m ((c : Thread nD τ).loc main_arg3) i := by
  entry_read
  pointwise []

/-- The row of the stream that row `a` of the block at grid point `t` stands for. -/
def row (t : Fin cfg0.N) (a : Fin 512) : Fin 9216 :=
  ⟨t.val / 2 * 512 + a.val, by have := (idx t).2.2.2.2.2.2; omega⟩

/-- The first block of columns stores the block's modulated rows. -/
theorem scratch_first (c : Dev nD) (t : Fin cfg0.N) (h : t.val % 2 = 0) (a : Fin 512) (k : Fin 2048) :
    (outsAt0 m c t.val t.isLt).2 (ix2 a k) = modulated 0 2048 (by omega) (by omega) (m ((c : Thread nD τ).loc main_arg0))
      (m ((c : Thread nD τ).loc main_arg1)) (m ((c : Thread nD τ).loc main_arg2)) (row t a) k := by
  rw [outsAt0_A m c t h]; frame_out
  pointwise [k0_pay1, modulated]
  blk_point [iblk, gain m c, V_main_arg0, V_main_arg2, idx t, row, modRow]

/-- The other blocks of columns leave them. -/
theorem scratch_kept (c : Dev nD) (t : Fin cfg0.N) (h : ¬ t.val % 2 = 0) :
    (outsAt0 m c t.val t.isLt).2 = (outsAt0 m c (t.val - 1) (by omega)).2 := by
  rw [outsAt0_B m c t h]; rfl

/-- So every block of columns finds the modulated rows. -/
theorem scratch (c : Dev nD) (a : Fin 512) (k : Fin 2048) : ∀ (n : ℕ) (hn : n < cfg0.N), (outsAt0 m c n hn).2 (ix2 a k)
    = modulated 0 2048 (by omega) (by omega) (m ((c : Thread nD τ).loc main_arg0)) (m ((c : Thread nD τ).loc main_arg1))
        (m ((c : Thread nD τ).loc main_arg2)) (row ⟨n, hn⟩ a) k :=
  kept 2 cfg0.N _ _ (fun n hn h => scratch_first m c ⟨n, hn⟩ h a k)
    (fun n hn h => congrFun (scratch_kept m c ⟨n + 1, hn⟩ h) (ix2 a k))
    fun n hn h => congrArg (fun r => modulated 0 2048 (by omega) (by omega) _ _ _ r k) (Fin.ext (by simp only [row]; omega))

/-- Every block of the result is the product of the kept rows and the block's columns. -/
theorem out (c : Dev nD) (t : Fin cfg0.N) (y) : (outsAt0 m c t.val t.isLt).1 y
    = k0_pay2 (outsAt0 m c t.val t.isLt).2 (iblk m c 4 t) y := by
  by_cases h : t.val % 2 = 0
  · rw [outsAt0_A m c t h]; frame_out
  · rw [scratch_kept m c t h, outsAt0_B m c t h]; frame_out
    rw [read_unread_whole]

/-- A block of the result. -/
theorem point (c : Dev nD) (t : Fin cfg0.N) (y : S512x640.Idx) : (outsAt0 m c t.val t.isLt).1 y
    = product .f32 (modulated 0 2048 (by omega) (by omega) (m ((c : Thread nD τ).loc main_arg0)) (m ((c : Thread nD τ).loc main_arg1))
        (m ((c : Thread nD τ).loc main_arg2))) (m ((c : Thread nD τ).loc main_arg3)) (((cfg0.win 5).blk t).view.emb y) := by
  obtain ⟨a, j, rfl⟩ : ∃ (a : Fin 512) (j : Fin 640), y = ix2 a j := ⟨y 0, y 1, eq_ix2 y⟩
  have e : ((cfg0.win 5).blk t).view.emb (ix2 a j) = ix2 (row t a) (⟨t.val % 2 * 640 + j.val, by omega⟩ : Fin 1280) := by
    blk_point [idx t, row]
  rw [out, e]
  pointwise [k0_pay2, product]
  refine Finset.sum_congr rfl fun k _ => ?_
  rw [scratch]
  blk_point [iblk, weights m c, idx t]

theorem final (c : Dev nD) : (dats m 0 c).arrAt 5 (cfgs 0).N
    = product .f32 (modulated 0 2048 (by omega) (by omega) (m ((c : Thread nD τ).loc main_arg0)) (m ((c : Thread nD τ).loc main_arg1))
        (m ((c : Thread nD τ).loc main_arg2))) (m ((c : Thread nD τ).loc main_arg3)) := by
  refine (dats m 0 c).arrAt_eq_of_covers 5 _ (by decide +kernel) fun t _ y => ?_
  blk_simp
  rw [after0_5]
  exact point m c t y

end Kernel

theorem algebraic : Cert.algebraic_MlaInIdeal_MlaInRefIdeal := by
  pair_intro
  · run_from Cert.MlaInIdeal.Gen.run_main m g
  · hlo_run
    refine Eq.trans ?_ (final m c).symm
    funext i
    obtain ⟨r, j, rfl⟩ : ∃ (r : Fin 9216) (j : Fin 1280), i = ix2 r j := ⟨i 0, i 1, eq_ix2 i⟩
    pointwise [product, modulated]
    simp only [(hagree c).2.2.2, modRow]
    split
    · rename_i h
      simp only [lat_row, lat_mod _ h, Fin.eta]
    · rename_i h
      simp only [ctx_row _ h, ctx_mod _ h, Fin.eta]
      rfl

end Cert.Calls.MlaIn

end
-- ==== Proof.SguIn.lean ====
/-
  `sgu_in`: the exact GELU of the stream, normalised and modulated, times the input weights of the spatial gating, and
  a bias.
-/
module

public import proofs.«01_k».proof.Defs
public import proofs.«01_k».proof.Proof.Gen.SguIn.Frame
public import proofs.«01_k».proof.Proof.Gen.SguInIdeal.Frame
public import proofs.«01_k».proof.Proof.Gen.SguInIdeal.Value
public import proofs.«01_k».proof.Proof.Gen.SguInRefIdeal
public import proofs.«01_k».proof.Proof.Stream
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.SguIn

open Cert.Stream

/-- The GELU of the modulated row times a column of the weights, and the column's bias. -/
def spec (x : Mat 9216 2048 .f32) (g : FVec Ideal ⟨1, ![2048]⟩ .f32) (mods : Mods) (w : Mat 2048 4096 .f32)
    (b : FVec Ideal ⟨1, ![4096]⟩ .f32) : Mat 9216 4096 .f32 := fun i =>
  gelu (product .f32 (modulated 0 2048 (by omega) (by omega) x g mods) w i + b (ix1 (i 1)))

section Kernel
open Cert.SguInIdeal Cert.SguInIdeal.Gen
variable (m : (ℓ : Loc nD τ sig) → Buf (Elt Ideal) ℓ)

/-- Which block every window reads at grid point `t`: 8 blocks of columns for each of 18 blocks of rows. -/
theorem idx : ∀ t : Fin cfg0.N, win0_0.index t = ![t.val / 8, 0] ∧ win0_1.index t = ![0, 0]
    ∧ win0_2.index t = ![min (t.val / 32) 4, 0, 0] ∧ win0_3.index t = ![min (t.val / 32) 4, 0, 1]
    ∧ win0_4.index t = ![0, t.val % 8] ∧ win0_5.index t = ![0, t.val % 8]
    ∧ win0_6.index t = ![t.val / 8, t.val % 8] ∧ t.val < 144 :=
  (by decide +kernel : ∀ t : Fin grid0.N, _)

/-- The gain is handed to the call as one row. -/
theorem gain (c : Dev nD) (i) : V m c main_v1 i = m ((c : Thread nD τ).loc main_arg1) (ix1 (i 1)) := by
  entry_read
  pointwise []

/-- The weights are handed to the call in a narrower type, which over the reals changes nothing. -/
theorem weights (c : Dev nD) (i) : V m c main_v0 i = m ((c : Thread nD τ).loc main_arg3) i := by
  entry_read
  pointwise []

/-- The bias is handed to the call as one row. -/
theorem bias (c : Dev nD) (i) : V m c main_v2 i = m ((c : Thread nD τ).loc main_arg4) (ix1 (i 1)) := by
  entry_read
  pointwise []

/-- The row of the stream that row `a` of the block at grid point `t` stands for. -/
def row (t : Fin cfg0.N) (a : Fin 512) : Fin 9216 :=
  ⟨t.val / 8 * 512 + a.val, by have := (idx t).2.2.2.2.2.2.2; omega⟩

/-- The first block of columns stores the block's modulated rows. -/
theorem scratch_first (c : Dev nD) (t : Fin cfg0.N) (h : t.val % 8 = 0) (a : Fin 512) (k : Fin 2048) :
    (outsAt0 m c t.val t.isLt).2 (ix2 a k) = modulated 0 2048 (by omega) (by omega) (m ((c : Thread nD τ).loc main_arg0))
      (m ((c : Thread nD τ).loc main_arg1)) (m ((c : Thread nD τ).loc main_arg2)) (row t a) k := by
  rw [outsAt0_A m c t h]; frame_out
  pointwise [k0_pay1, modulated]
  blk_point [iblk, gain m c, V_main_arg0, V_main_arg2, idx t, row, modRow]

/-- The other blocks of columns leave them. -/
theorem scratch_kept (c : Dev nD) (t : Fin cfg0.N) (h : ¬ t.val % 8 = 0) :
    (outsAt0 m c t.val t.isLt).2 = (outsAt0 m c (t.val - 1) (by omega)).2 := by
  rw [outsAt0_B m c t h]; rfl

/-- So every block of columns finds the modulated rows. -/
theorem scratch (c : Dev nD) (a : Fin 512) (k : Fin 2048) : ∀ (n : ℕ) (hn : n < cfg0.N), (outsAt0 m c n hn).2 (ix2 a k)
    = modulated 0 2048 (by omega) (by omega) (m ((c : Thread nD τ).loc main_arg0)) (m ((c : Thread nD τ).loc main_arg1))
        (m ((c : Thread nD τ).loc main_arg2)) (row ⟨n, hn⟩ a) k :=
  kept 8 cfg0.N _ _ (fun n hn h => scratch_first m c ⟨n, hn⟩ h a k)
    (fun n hn h => congrFun (scratch_kept m c ⟨n + 1, hn⟩ h) (ix2 a k))
    fun n hn h => congrArg (fun r => modulated 0 2048 (by omega) (by omega) _ _ _ r k) (Fin.ext (by simp only [row]; omega))

/-- Every block of the result comes from the kept rows and the block's columns. -/
theorem out (c : Dev nD) (t : Fin cfg0.N) (y) : (outsAt0 m c t.val t.isLt).1 y
    = k0_pay2 (outsAt0 m c t.val t.isLt).2 (iblk m c 4 t) (iblk m c 5 t) y := by
  by_cases h : t.val % 8 = 0
  · rw [outsAt0_A m c t h]; frame_out
  · rw [scratch_kept m c t h, outsAt0_B m c t h]; frame_out
    rw [read_unread_whole]

/-- A block of the result. -/
theorem point (c : Dev nD) (t : Fin cfg0.N) (y : S512x512.Idx) : (outsAt0 m c t.val t.isLt).1 y
    = spec (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  obtain ⟨a, j, rfl⟩ : ∃ (a : Fin 512) (j : Fin 512), y = ix2 a j := ⟨y 0, y 1, eq_ix2 y⟩
  have e : ((cfg0.win 6).blk t).view.emb (ix2 a j) = ix2 (row t a) (⟨t.val % 8 * 512 + j.val, by omega⟩ : Fin 4096) := by
    blk_point [idx t, row]
  have es : (∑ k : Fin 2048, (outsAt0 m c t.val t.isLt).2 (ix2 a k) * iblk m c 4 t (ix2 k j))
      = product .f32 (modulated 0 2048 (by omega) (by omega) (m ((c : Thread nD τ).loc main_arg0)) (m ((c : Thread nD τ).loc main_arg1))
        (m ((c : Thread nD τ).loc main_arg2))) (m ((c : Thread nD τ).loc main_arg3)) (ix2 (row t a) ⟨t.val % 8 * 512 + j.val, by omega⟩) := by
    refine Finset.sum_congr rfl fun k _ => ?_
    rw [scratch]
    blk_point [iblk, weights m c, idx t]
  have eb : iblk m c 5 t (ix2 0 j) = m ((c : Thread nD τ).loc main_arg4) (ix1 ⟨t.val % 8 * 512 + j.val, by omega⟩) := by
    blk_point [iblk, bias m c, idx t]
  rw [out, e]
  pointwise [k0_pay2]
  rw [es, eb]
  rfl

theorem final (c : Dev nD) : (dats m 0 c).arrAt 6 (cfgs 0).N
    = spec (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  exact point m c t y

end Kernel

set_option maxHeartbeats 1600000 in
theorem algebraic : Cert.algebraic_SguInIdeal_SguInRefIdeal := by
  pair_intro
  · run_from Cert.SguInIdeal.Gen.run_main m g
  · hlo_run
    refine Eq.trans ?_ (final m c).symm
    funext i
    obtain ⟨r, j, rfl⟩ : ∃ (r : Fin 9216) (j : Fin 4096), i = ix2 r j := ⟨i 0, i 1, eq_ix2 i⟩
    pointwise []
    simp only [(hagree c).2.2.2.1, (hagree c).2.2.2.2, gelu_erfc]
    pointwise [spec, product, modulated]
    simp only [modRow]
    split
    · rename_i h
      simp only [lat_row, lat_mod _ h, Fin.eta]
    · rename_i h
      simp only [ctx_row _ h, ctx_mod _ h, Fin.eta]
      rfl

end Cert.Calls.SguIn

end
-- ==== Proof.MixerOut.lean ====
/-
  `mixer_out`: a mixer's heads times its output weights, gated and added to the stream.
-/
module

public import proofs.«01_k».proof.Defs
public import proofs.«01_k».proof.Proof.Gen.MixerOut.Frame
public import proofs.«01_k».proof.Proof.Gen.MixerOutIdeal.Frame
public import proofs.«01_k».proof.Proof.Gen.MixerOutRefIdeal
public import proofs.«01_k».proof.Proof.Stream
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.MixerOut

open Cert.Stream

section Kernel
open Cert.MixerOutIdeal Cert.MixerOutIdeal.Gen
variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![min (t.val / 16) 4, 0, 8 + t.val % 4]
    ∧ win0_4.index t = ![t.val / 4, t.val % 4] ∧ t.val < 72 :=
  (by decide +kernel : ∀ t : Fin grid0.N, _)

theorem point (c : Dev nD) (t : Fin cfg0.N) (y) : k0_pay1 (iblk m c 0 t) (iblk m c 1 t) (iblk m c 2 t) (iblk m c 3 t) y
    = addGated 4096 (by omega) le_rfl (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, addGated]
  blk_point [iblk, V, idx t, modRow]

theorem final (c : Dev nD) : (dats m 0 c).arrAt 4 (cfgs 0).N
    = addGated 4096 (by omega) le_rfl (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Kernel

theorem algebraic : Cert.algebraic_MixerOutIdeal_MixerOutRefIdeal := by
  pair_intro
  · run_from Cert.MixerOutIdeal.Gen.run_main m g
  · hlo_run
    refine Eq.trans ?_ (final m c).symm
    funext i
    obtain ⟨r, j, rfl⟩ : ∃ (r : Fin 9216) (j : Fin 2048), i = ix2 r j := ⟨i 0, i 1, eq_ix2 i⟩
    pointwise [addGated]
    simp only [(hagree c).2.2.2, modRow]
    split
    · rename_i h
      simp only [lat_row, lat_mod _ h, Fin.eta]
    · rename_i h
      simp only [ctx_row _ h, ctx_mod _ h, Fin.eta]
      rfl

end Cert.Calls.MixerOut

end
-- ==== Proof.ConvGate.lean ====
/-
  `conv_gate`: a convolution over three neighboring rows of one sequence, then one half of the columns times the SiLU
  of the other half.
-/
module

public import proofs.«01_k».proof.Defs
public import proofs.«01_k».proof.Proof.Gen.ConvGate.Frame
public import proofs.«01_k».proof.Proof.Gen.ConvGateIdeal.Frame
public import proofs.«01_k».proof.Proof.Gen.ConvGateRefIdeal
public import proofs.«01_k».proof.Proof.Stream
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Affine
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.ConvGate

open Cert.Stream

/-- How many rows a row's sequence has. -/
def len (r : ℕ) : ℕ := if r < 8192 then 2048 else 256

/-- A row's place in its sequence. -/
def place (r : ℕ) : ℕ := r % len r

/-- The entry above, zero at the start of a sequence. -/
def above (u : Mat 9216 11264 .f32) (r : Fin 9216) (j : Fin 11264) : EReal :=
  if place r.val = 0 then 0 else u (ix2 ⟨r.val - 1, by omega⟩ j)

/-- The entry below, zero at the end of a sequence. -/
def below (u : Mat 9216 11264 .f32) (r : Fin 9216) (j : Fin 11264) : EReal :=
  if place r.val = len r.val - 1 then 0 else u (ix2 ⟨min (r.val + 1) 9215, by omega⟩ j)

/-- The convolution. -/
def conv (u : Mat 9216 11264 .f32) (w : Mat 3 11264 .f32) (b : FVec Ideal ⟨1, ![11264]⟩ .f32) (r : Fin 9216) (j : Fin 11264) : EReal :=
  above u r j * w (ix2 0 j) + u (ix2 r j) * w (ix2 1 j) + below u r j * w (ix2 2 j) + b (ix1 j)

/-- Half of the convolution's columns times the SiLU of the other half. -/
def spec (u : Mat 9216 11264 .f32) (w : Mat 3 11264 .f32) (b : FVec Ideal ⟨1, ![11264]⟩ .f32) : Mat 9216 5632 .bf16 := fun i =>
  conv u w b (i 0) ⟨(i 1).val, by have : (i 1).val < 5632 := (i 1).isLt; omega⟩
    * (conv u w b (i 0) ⟨5632 + (i 1).val, by have : (i 1).val < 5632 := (i 1).isLt; omega⟩
      * Ideal.logistic (conv u w b (i 0) ⟨5632 + (i 1).val, by have : (i 1).val < 5632 := (i 1).isLt; omega⟩))

section Kernel
open Cert.ConvGateIdeal Cert.ConvGateIdeal.Gen
variable (m : (ℓ : Loc nD τ sig) → Buf (Elt Ideal) ℓ)

/-- Which block every window reads at grid point `t`: 11 blocks of columns for each of 18 blocks of rows. -/
theorem idx : ∀ t : Fin cfg0.N, win0_0.index t = ![t.val / 11, t.val % 11] ∧ win0_1.index t = ![t.val / 11, t.val % 11 + 11]
    ∧ win0_2.index t = ![t.val / 11 * 64 - 1, t.val % 11] ∧ win0_3.index t = ![t.val / 11 * 64 - 1, t.val % 11 + 11]
    ∧ win0_4.index t = ![min ((t.val / 11 + 1) * 64) 1151, t.val % 11]
    ∧ win0_5.index t = ![min ((t.val / 11 + 1) * 64) 1151, t.val % 11 + 11]
    ∧ win0_6.index t = ![0, t.val % 11] ∧ win0_7.index t = ![0, t.val % 11 + 11]
    ∧ win0_8.index t = ![0, t.val % 11] ∧ win0_9.index t = ![0, t.val % 11 + 11]
    ∧ win0_10.index t = ![t.val / 11, t.val % 11] ∧ t.val < 198 ∧ (grid0.coords t 0).val = t.val / 11 :=
  (by decide +kernel : ∀ t : Fin grid0.N, _)

/-- The row that row `a` of the block at grid point `t` stands for. -/
def row (t : Fin cfg0.N) (a : Fin 512) : Fin 9216 :=
  ⟨t.val / 11 * 512 + a.val, by have := (idx t).2.2.2.2.2.2.2.2.2.2.2.1; omega⟩

/-- The number of a row, as the kernel counts it. -/
theorem pay2 (t : Fin cfg0.N) (a : Fin 512) (k : Fin 1) : k0_pay2 (grid0.coords t) (ix2 a k) = BitVec.ofNat 32 (row t a).val := by
  pointwise [k0_pay2, idx t, row]
  rw [BitVec.ofNat_add, BitVec.ofNat_mul]; rfl

/-- The kernel's place of a row in its sequence. -/
theorem pay3 (t : Fin cfg0.N) (a : Fin 512) (k : Fin 1) : k0_pay3 (grid0.coords t) (ix2 a k) = BitVec.ofNat 32 (place (row t a).val) := by
  pointwise [k0_pay3, pay2 t]
  generalize row t a = r
  revert r
  decide +kernel

/-- The kernel's length of a row's sequence. -/
theorem pay5 (t : Fin cfg0.N) (a : Fin 512) (k : Fin 1) :
    k0_pay5 (k0_pay4 (grid0.coords t)) 2048#32 256#32 (ix2 a k) = BitVec.ofNat 32 (len (row t a).val) := by
  pointwise [k0_pay5, k0_pay4, pay2 t]
  generalize row t a = r
  revert r
  decide +kernel

/-- A choice on two equal words. -/
theorem select_eq {α : Type} (x y : BitVec 32) (a b : α) : Scalar.select (IntOp.cmpi .eq x y) a b = if x = y then a else b := by
  by_cases h : x = y
  · rw [if_pos h, IntOp.cmpi_eq.2 h]; rfl
  · rw [if_neg h]; exact if_neg fun e => h (IntOp.cmpi_eq.1 e)

/-- Two small numbers are equal when their words are. -/
theorem word (n k : ℕ) (hn : n < 4294967296) (hk : k < 4294967296) : BitVec.ofNat 32 n = BitVec.ofNat 32 k ↔ n = k := by
  rw [← BitVec.toNat_inj, BitVec.toNat_ofNat, BitVec.toNat_ofNat]; omega

/-- The entry above, as the kernel takes it from a block and the last row of the eight before it. -/
theorem pay10 (t : Fin cfg0.N) (x : Vec Ideal S512x512 .f32) (v : Vec Ideal S1x512 .f32) (a j : Fin 512) :
    k0_pay10 (k0_pay3 (grid0.coords t)) (iota .tc S512x1 32 [0] iota_S512x1_d0_w32) x v (ix2 a j)
      = if place (row t a).val = 0 then 0 else if a.val = 0 then v (ix2 0 j) else x (ix2 ⟨a.val - 1, by omega⟩ j) := by
  have hp : place (row t a).val < 2048 := by unfold place len; split <;> omega
  pointwise [k0_pay10, pay3]
  rw [select_eq, select_eq]
  refine if_congr (word _ 0 (by omega) (by omega)) rfl ?_
  by_cases ha : a.val = 0
  · rw [if_pos ha, if_pos ((word _ 0 (by omega) (by omega)).2 ha)]
  · rw [if_neg ha, if_neg fun h => ha ((word _ 0 (by omega) (by omega)).1 h)]
    exact congrArg x (congrArg (ix2 · j) (Fin.ext (by show (a.val + 512 - 1) % 512 = a.val - 1; omega)))

/-- The entry below, as the kernel takes it from a block and the first row of the eight after it. -/
theorem pay11 (t : Fin cfg0.N) (x : Vec Ideal S512x512 .f32) (v : Vec Ideal S1x512 .f32) (a j : Fin 512) :
    k0_pay11 (k0_pay3 (grid0.coords t)) (k0_pay5 (k0_pay4 (grid0.coords t)) 2048#32 256#32)
        (iota .tc S512x1 32 [0] iota_S512x1_d0_w32) x v (ix2 a j)
      = if place (row t a).val = len (row t a).val - 1 then 0 else if a.val = 511 then v (ix2 0 j)
        else x (ix2 ⟨min (a.val + 1) 511, by omega⟩ j) := by
  have hp : place (row t a).val < 2048 := by unfold place len; split <;> omega
  have hl : 0 < len (row t a).val ∧ len (row t a).val ≤ 2048 := by unfold len; split <;> omega
  have hs : BitVec.ofNat 32 (len (row t a).val) - 1#32 = BitVec.ofNat 32 (len (row t a).val - 1) := by
    rw [← BitVec.toNat_inj, BitVec.toNat_sub, BitVec.toNat_ofNat, BitVec.toNat_ofNat, BitVec.toNat_ofNat]; omega
  pointwise [k0_pay11, pay3, pay5]
  rw [select_eq, select_eq, show IntOp.subi (BitVec.ofNat 32 (len (row t a).val)) 1#32 = _ from hs]
  refine if_congr (word _ _ (by omega) (by omega)) rfl ?_
  by_cases ha : a.val = 511
  · rw [if_pos ha, if_pos ((word _ 511 (by omega) (by omega)).2 ha)]
  · rw [if_neg ha, if_neg fun h => ha ((word _ 511 (by omega) (by omega)).1 h)]
    exact congrArg x (congrArg (ix2 · j) (Fin.ext (by show (a.val + 512 - 511) % 512 = min (a.val + 1) 511; omega)))

/-- The two places where the kernel spells out the entries above and below in another order. -/
theorem pay7 (p : IVec S512x1 32) (x : Vec Ideal S512x512 .f32) (v w : Vec Ideal S1x512 .f32) (a j : Fin 512) :
    k0_pay7 p x v w (ix2 a j) = k0_pay10 p (iota .tc S512x1 32 [0] iota_S512x1_d0_w32) x v (ix2 a j) * w (ix2 0 j) := by
  pointwise [k0_pay7, k0_pay10]

theorem pay6 (p : IVec S512x1 32) (q : IVec S512x1 1) (k l : BitVec 32) (x : Vec Ideal S512x512 .f32) (v : Vec Ideal S1x512 .f32) :
    k0_pay6 p q k l x v = k0_pay11 p (k0_pay5 q k l) (iota .tc S512x1 32 [0] iota_S512x1_d0_w32) x v := rfl

/-- The entry above, when the block and the eight rows before it are the array's. -/
theorem above_block (t : Fin cfg0.N) (u : Mat 9216 11264 .f32) (x : Vec Ideal S512x512 .f32) (v : Vec Ideal S1x512 .f32) (a j : Fin 512)
    (k : Fin 11264) (hx : ∀ a, x (ix2 a j) = u (ix2 (row t a) k))
    (hv : 0 < t.val / 11 → v (ix2 0 j) = u (ix2 ⟨t.val / 11 * 512 - 1, by have := (row t 0).isLt; simp only [row] at this; omega⟩ k)) :
    k0_pay10 (k0_pay3 (grid0.coords t)) (iota .tc S512x1 32 [0] iota_S512x1_d0_w32) x v (ix2 a j) = above u (row t a) k := by
  rw [pay10, above]
  by_cases hp : place (row t a).val = 0
  · rw [if_pos hp, if_pos hp]
  rw [if_neg hp, if_neg hp]
  have hr : (row t a).val ≠ 0 := fun h => hp (by rw [h]; rfl)
  have he : (row t a).val = t.val / 11 * 512 + a.val := rfl
  by_cases ha : a.val = 0
  · rw [if_pos ha, hv (by omega)]
    exact congrArg u (congrArg (ix2 · k) (Fin.ext (by show t.val / 11 * 512 - 1 = (row t a).val - 1; omega)))
  · rw [if_neg ha, hx]
    exact congrArg u (congrArg (ix2 · k) (Fin.ext (by show t.val / 11 * 512 + (a.val - 1) = (row t a).val - 1; omega)))

/-- The entry below, when the block and the eight rows after it are the array's. -/
theorem below_block (t : Fin cfg0.N) (u : Mat 9216 11264 .f32) (x : Vec Ideal S512x512 .f32) (v : Vec Ideal S1x512 .f32) (a j : Fin 512)
    (k : Fin 11264) (hx : ∀ a, x (ix2 a j) = u (ix2 (row t a) k))
    (hv : t.val / 11 < 17 → v (ix2 0 j) = u (ix2 ⟨min (t.val / 11 * 512 + 512) 9215, by omega⟩ k)) :
    k0_pay11 (k0_pay3 (grid0.coords t)) (k0_pay5 (k0_pay4 (grid0.coords t)) 2048#32 256#32)
      (iota .tc S512x1 32 [0] iota_S512x1_d0_w32) x v (ix2 a j) = below u (row t a) k := by
  rw [pay11, below]
  by_cases hp : place (row t a).val = len (row t a).val - 1
  · rw [if_pos hp, if_pos hp]
  rw [if_neg hp, if_neg hp]
  have hr : (row t a).val ≠ 9215 := fun h => hp (by rw [h]; rfl)
  have he : (row t a).val = t.val / 11 * 512 + a.val := rfl
  have hlt : (row t a).val < 9216 := (row t a).isLt
  by_cases ha : a.val = 511
  · rw [if_pos ha, hv (by omega)]
    exact congrArg u (congrArg (ix2 · k) (Fin.ext (by show min (t.val / 11 * 512 + 512) 9215 = min ((row t a).val + 1) 9215; omega)))
  · rw [if_neg ha, hx]
    exact congrArg u (congrArg (ix2 · k) (Fin.ext (by
      show t.val / 11 * 512 + min (a.val + 1) 511 = min ((row t a).val + 1) 9215; omega)))

/-- The column of the gated half that column `j` of the block at grid point `t` stands for. -/
def lo (t : Fin cfg0.N) (j : Fin 512) : Fin 11264 := ⟨t.val % 11 * 512 + j.val, by omega⟩

/-- The column of the gating half. -/
def hi (t : Fin cfg0.N) (j : Fin 512) : Fin 11264 := ⟨5632 + (t.val % 11 * 512 + j.val), by omega⟩

/-- The bias is handed to the call as one row. -/
theorem bias (c : Dev nD) (i) : V m c main_v0 i = m ((c : Thread nD τ).loc main_arg2) (ix1 (i 1)) := by
  entry_read
  pointwise []

/-- The entries above and below in the array, for the two halves of the columns. -/
theorem above_lo (c : Dev nD) (t : Fin cfg0.N) (a j : Fin 512) :
    k0_pay10 (k0_pay3 (grid0.coords t)) (iota .tc S512x1 32 [0] iota_S512x1_d0_w32) (iblk m c 0 t) (View.ld (iblk m c 2 t) r0_1) (ix2 a j)
      = above (m ((c : Thread nD τ).loc main_arg0)) (row t a) (lo t j) := by
  refine above_block t _ _ _ a j _ (fun a => ?_) fun h => ?_
  · blk_point [iblk, V_main_arg0, idx t, row, lo]
  · pointwise []
    blk_point [iblk, V_main_arg0, idx t, lo]

theorem above_hi (c : Dev nD) (t : Fin cfg0.N) (a j : Fin 512) :
    k0_pay10 (k0_pay3 (grid0.coords t)) (iota .tc S512x1 32 [0] iota_S512x1_d0_w32) (iblk m c 1 t) (View.ld (iblk m c 3 t) r0_1) (ix2 a j)
      = above (m ((c : Thread nD τ).loc main_arg0)) (row t a) (hi t j) := by
  refine above_block t _ _ _ a j _ (fun a => ?_) fun h => ?_
  · blk_point [iblk, V_main_arg0, idx t, row, hi]
  · pointwise []
    blk_point [iblk, V_main_arg0, idx t, hi]

theorem below_lo (c : Dev nD) (t : Fin cfg0.N) (a j : Fin 512) :
    k0_pay11 (k0_pay3 (grid0.coords t)) (k0_pay5 (k0_pay4 (grid0.coords t)) 2048#32 256#32)
        (iota .tc S512x1 32 [0] iota_S512x1_d0_w32) (iblk m c 0 t) (View.ld (iblk m c 4 t) r0_2) (ix2 a j)
      = below (m ((c : Thread nD τ).loc main_arg0)) (row t a) (lo t j) := by
  refine below_block t _ _ _ a j _ (fun a => ?_) fun h => ?_
  · blk_point [iblk, V_main_arg0, idx t, row, lo]
  · pointwise []
    blk_point [iblk, V_main_arg0, idx t, lo]

theorem below_hi (c : Dev nD) (t : Fin cfg0.N) (a j : Fin 512) :
    k0_pay11 (k0_pay3 (grid0.coords t)) (k0_pay5 (k0_pay4 (grid0.coords t)) 2048#32 256#32)
        (iota .tc S512x1 32 [0] iota_S512x1_d0_w32) (iblk m c 1 t) (View.ld (iblk m c 5 t) r0_2) (ix2 a j)
      = below (m ((c : Thread nD τ).loc main_arg0)) (row t a) (hi t j) := by
  refine below_block t _ _ _ a j _ (fun a => ?_) fun h => ?_
  · blk_point [iblk, V_main_arg0, idx t, row, hi]
  · pointwise []
    blk_point [iblk, V_main_arg0, idx t, hi]

/-- What the blocks hold of the rows, the three taps and the bias, for the two halves of the columns. -/
theorem row_lo (c : Dev nD) (t : Fin cfg0.N) (a j : Fin 512) :
    iblk m c 0 t (ix2 a j) = m ((c : Thread nD τ).loc main_arg0) (ix2 (row t a) (lo t j)) := by
  blk_point [iblk, V_main_arg0, idx t, row, lo]

theorem row_hi (c : Dev nD) (t : Fin cfg0.N) (a j : Fin 512) :
    iblk m c 1 t (ix2 a j) = m ((c : Thread nD τ).loc main_arg0) (ix2 (row t a) (hi t j)) := by
  blk_point [iblk, V_main_arg0, idx t, row, hi]

theorem tap_lo (c : Dev nD) (t : Fin cfg0.N) (k : Fin 3) (j : Fin 512) :
    iblk m c 6 t (ix2 k j) = m ((c : Thread nD τ).loc main_arg1) (ix2 k (lo t j)) := by
  blk_point [iblk, V_main_arg1, idx t, lo]

theorem tap_hi (c : Dev nD) (t : Fin cfg0.N) (k : Fin 3) (j : Fin 512) :
    iblk m c 7 t (ix2 k j) = m ((c : Thread nD τ).loc main_arg1) (ix2 k (hi t j)) := by
  blk_point [iblk, V_main_arg1, idx t, hi]

theorem bias_lo (c : Dev nD) (t : Fin cfg0.N) (j : Fin 512) :
    iblk m c 8 t (ix2 0 j) = m ((c : Thread nD τ).loc main_arg2) (ix1 (lo t j)) := by
  blk_point [iblk, bias m c, idx t, lo]

theorem bias_hi (c : Dev nD) (t : Fin cfg0.N) (j : Fin 512) :
    iblk m c 9 t (ix2 0 j) = m ((c : Thread nD τ).loc main_arg2) (ix1 (hi t j)) := by
  blk_point [iblk, bias m c, idx t, hi]

/-- Three taps and a bias, in the order in which the kernel adds them. -/
def fir (u k₀ x k₁ d k₂ b : EReal) : EReal := u * k₀ + x * k₁ + d * k₂ + b

theorem fir_congr {u k₀ x k₁ d k₂ b u' k₀' x' k₁' d' k₂' b' : EReal} (hu : u = u') (h₀ : k₀ = k₀') (hx : x = x')
    (h₁ : k₁ = k₁') (hd : d = d') (h₂ : k₂ = k₂') (hb : b = b') :
    fir u k₀ x k₁ d k₂ b = fir u' k₀' x' k₁' d' k₂' b' := by
  subst hu h₀ hx h₁ hd h₂ hb; rfl

/-- The convolution as the kernel adds it up, for the two halves of the columns. -/
theorem conv_lo (c : Dev nD) (t : Fin cfg0.N) (a j : Fin 512) :
    fir (k0_pay10 (k0_pay3 (grid0.coords t)) (iota .tc S512x1 32 [0] iota_S512x1_d0_w32) (iblk m c 0 t) (View.ld (iblk m c 2 t) r0_1) (ix2 a j))
        (View.ld (iblk m c 6 t) r0_3 (ix2 0 j)) (iblk m c 0 t (ix2 a j)) (iblk m c 6 t (ix2 1 j))
        (k0_pay11 (k0_pay3 (grid0.coords t)) (k0_pay5 (k0_pay4 (grid0.coords t)) 2048#32 256#32)
          (iota .tc S512x1 32 [0] iota_S512x1_d0_w32) (iblk m c 0 t) (View.ld (iblk m c 4 t) r0_2) (ix2 a j))
        (iblk m c 6 t (ix2 2 j)) (iblk m c 8 t (ix2 0 j))
      = conv (m ((c : Thread nD τ).loc main_arg0)) (m ((c : Thread nD τ).loc main_arg1)) (m ((c : Thread nD τ).loc main_arg2))
          (row t a) (lo t j) := by
  have h : View.ld (iblk m c 6 t) r0_3 (ix2 0 j) = iblk m c 6 t (ix2 0 j) := by pointwise []
  exact (fir_congr (above_lo m c t a j) (h.trans (tap_lo m c t 0 j)) (row_lo m c t a j) (tap_lo m c t 1 j)
    (below_lo m c t a j) (tap_lo m c t 2 j) (bias_lo m c t j)).trans rfl

theorem conv_hi (c : Dev nD) (t : Fin cfg0.N) (a j : Fin 512) :
    fir (k0_pay10 (k0_pay3 (grid0.coords t)) (iota .tc S512x1 32 [0] iota_S512x1_d0_w32) (iblk m c 1 t) (View.ld (iblk m c 3 t) r0_1) (ix2 a j))
        (iblk m c 7 t (ix2 0 j)) (iblk m c 1 t (ix2 a j)) (iblk m c 7 t (ix2 1 j))
        (k0_pay11 (k0_pay3 (grid0.coords t)) (k0_pay5 (k0_pay4 (grid0.coords t)) 2048#32 256#32)
          (iota .tc S512x1 32 [0] iota_S512x1_d0_w32) (iblk m c 1 t) (View.ld (iblk m c 5 t) r0_2) (ix2 a j))
        (iblk m c 7 t (ix2 2 j)) (iblk m c 9 t (ix2 0 j))
      = conv (m ((c : Thread nD τ).loc main_arg0)) (m ((c : Thread nD τ).loc main_arg1)) (m ((c : Thread nD τ).loc main_arg2))
          (row t a) (hi t j) := by
  exact (fir_congr (above_hi m c t a j) (tap_hi m c t 0 j) (row_hi m c t a j) (tap_hi m c t 1 j)
    (below_hi m c t a j) (tap_hi m c t 2 j) (bias_hi m c t j)).trans rfl

/-- A block of the result. -/
theorem point (c : Dev nD) (t : Fin cfg0.N) (a j : Fin 512) :
    out0_10 (grid0.coords t) (iblk m c 0 t) (iblk m c 1 t) (iblk m c 2 t) (iblk m c 3 t) (iblk m c 4 t) (iblk m c 5 t)
        (iblk m c 6 t) (iblk m c 7 t) (iblk m c 8 t) (iblk m c 9 t) (ix2 a j)
      = spec (m ((c : Thread nD τ).loc main_arg0)) (m ((c : Thread nD τ).loc main_arg1)) (m ((c : Thread nD τ).loc main_arg2))
        (ix2 (row t a) (⟨t.val % 11 * 512 + j.val, by omega⟩ : Fin 5632)) := by
  frame_out
  simp only [k0_pay12, k0_pay13, k0_pay14]
  pointwise [k0_pay1, k0_pay9, k0_pay8]
  rw [pay7, pay6]
  exact congrArg₂ (· * ·) (conv_lo m c t a j)
    (congrArg₂ (· * ·) (conv_hi m c t a j) (congrArg Ideal.logistic (conv_hi m c t a j)))

theorem final (c : Dev nD) : (dats m 0 c).arrAt 10 (cfgs 0).N
    = spec (m ((c : Thread nD τ).loc main_arg0)) (m ((c : Thread nD τ).loc main_arg1)) (m ((c : Thread nD τ).loc main_arg2)) := by
  refine (dats m 0 c).arrAt_eq_of_covers 10 _ (by decide +kernel) fun t _ y => ?_
  obtain ⟨a, j, rfl⟩ : ∃ (a : Fin 512) (j : Fin 512), y = ix2 a j := ⟨y 0, y 1, eq_ix2 y⟩
  have e : ((cfg0.win 10).blk t).view.emb (ix2 a j) = ix2 (row t a) (⟨t.val % 11 * 512 + j.val, by omega⟩ : Fin 5632) := by
    blk_point [idx t, row]
  rw [e]
  blk_simp
  rw [after0_10]
  exact point m c t a j

end Kernel

section Reference
open Cert.ConvGateRefIdeal Cert.ConvGateRefIdeal.Gen

/-- The reference's padded latent sequences. -/
def padLat (u : Mat 9216 11264 .f32) : FVec Ideal S4x2050x11264 .f32 :=
  pad S4x2050x11264 ![0, 1, 0] ![0, 1, 0] ![0, 0, 0]
    (shapeCast S4x2048x11264 (extractStridedSlice S8192x11264 ![0, 0] u slices_S9216x11264_S8192x11264_0_0) shapeCasts_S8192x11264_S4x2048x11264)
    (sitofp .f32 (constantI S_ 32 0#32)) pads_S4x2048x11264_S4x2050x11264_000_110_000 h_S_

theorem padLat_in (u : Mat 9216 11264 .f32) (q : Fin 4) (i : Fin 2050) (k : Fin 11264) (h : 0 < i.val) (h' : i.val < 2049) :
    padLat u (ix3 q i k) = u (ix2 ⟨q.val * 2048 + (i.val - 1), by omega⟩ k) := by
  refine (pad_apply_of_inside _ _ _ _ _ _ _ _ (ix3 q (⟨i.val - 1, by omega⟩ : Fin 2048) k) fun a => ?_).trans ?_
  · match a with
    | 0 => show q.val = 0 + q.val * (0 + 1); omega
    | 1 => show i.val = 1 + (i.val - 1) * (0 + 1); omega
    | 2 => show k.val = 0 + k.val * (0 + 1); omega
  · pointwise []

theorem padLat_out (u : Mat 9216 11264 .f32) (q : Fin 4) (i : Fin 2050) (k : Fin 11264) (h : i.val = 0 ∨ i.val = 2049) :
    padLat u (ix3 q i k) = 0 := by
  refine (pad_apply_of_not_inside _ _ _ _ _ _ _ _ 1 fun e => ?_).trans ?_
  · have e1 : 1 ≤ i.val := e.1
    have e2 : (i.val - 1) / (0 + 1) < 2048 := e.2.2
    omega
  · pointwise []
    simp [FloatOps.sitofp]

/-- The reference's convolution of the latent sequences. -/
def convLat (u : Mat 9216 11264 .f32) (w : Mat 3 11264 .f32) (b : FVec Ideal ⟨1, ![11264]⟩ .f32) : FVec Ideal S4x2048x11264 .f32 :=
  addf (addf (addf (addf (broadcastInDim S4x2048x11264 ![] bcast_S_S4x2048x11264 (constant S_ .f32 0x00000000#32))
      (mulf (extractStridedSlice S4x2048x11264 ![0, 0, 0] (padLat u) slices_S4x2050x11264_S4x2048x11264_0_0_0)
      (broadcastInDim S4x2048x11264 ![0, 1, 2] bcast_S1x1x11264_S4x2048x11264_0_1_2 (broadcastInDim S1x1x11264 ![2] bcast_S11264_S1x1x11264_2
        (shapeCast S11264 (extractStridedSlice S1x11264 ![0, 0] w slices_S3x11264_S1x11264_0_0) shapeCasts_S1x11264_S11264)))))
      (mulf (extractStridedSlice S4x2048x11264 ![0, 1, 0] (padLat u) slices_S4x2050x11264_S4x2048x11264_0_1_0)
      (broadcastInDim S4x2048x11264 ![0, 1, 2] bcast_S1x1x11264_S4x2048x11264_0_1_2 (broadcastInDim S1x1x11264 ![2] bcast_S11264_S1x1x11264_2
        (shapeCast S11264 (extractStridedSlice S1x11264 ![1, 0] w slices_S3x11264_S1x11264_1_0) shapeCasts_S1x11264_S11264)))))
      (mulf (extractStridedSlice S4x2048x11264 ![0, 2, 0] (padLat u) slices_S4x2050x11264_S4x2048x11264_0_2_0)
      (broadcastInDim S4x2048x11264 ![0, 1, 2] bcast_S1x1x11264_S4x2048x11264_0_1_2 (broadcastInDim S1x1x11264 ![2] bcast_S11264_S1x1x11264_2
        (shapeCast S11264 (extractStridedSlice S1x11264 ![2, 0] w slices_S3x11264_S1x11264_2_0) shapeCasts_S1x11264_S11264)))))
    (broadcastInDim S4x2048x11264 ![0, 1, 2] bcast_S1x1x11264_S4x2048x11264_0_1_2 (broadcastInDim S1x1x11264 ![2] bcast_S11264_S1x1x11264_2 b))

theorem convLat_at (u : Mat 9216 11264 .f32) (w : Mat 3 11264 .f32) (b : FVec Ideal ⟨1, ![11264]⟩ .f32) (q : Fin 4) (i : Fin 2048)
    (k : Fin 11264) : convLat u w b (ix3 q i k) = conv u w b ⟨q.val * 2048 + i.val, by omega⟩ k := by
  have hl : len (q.val * 2048 + i.val) = 2048 := by unfold len; split <;> omega
  have hp : place (q.val * 2048 + i.val) = i.val := by unfold place; rw [hl]; omega
  have h0 : padLat u (ix3 q (⟨i.val, by omega⟩ : Fin 2050) k) = above u ⟨q.val * 2048 + i.val, by omega⟩ k := by
    unfold above
    by_cases h : i.val = 0
    · rw [padLat_out _ _ _ _ (.inl h)]; exact (if_pos (hp.trans h)).symm
    · rw [padLat_in _ _ _ _ (by show 0 < i.val; omega) (by show i.val < 2049; omega)]
      refine Eq.trans ?_ (if_neg (fun e => h (hp.symm.trans e))).symm
      exact congrArg u (congrArg (ix2 · k) (Fin.ext (by show q.val * 2048 + (i.val - 1) = q.val * 2048 + i.val - 1; omega)))
  have h1 : padLat u (ix3 q (⟨1 + i.val, by omega⟩ : Fin 2050) k) = u (ix2 ⟨q.val * 2048 + i.val, by omega⟩ k) := by
    rw [padLat_in _ _ _ _ (by show 0 < 1 + i.val; omega) (by show 1 + i.val < 2049; omega)]
    exact congrArg u (congrArg (ix2 · k) (Fin.ext (by show q.val * 2048 + (1 + i.val - 1) = q.val * 2048 + i.val; omega)))
  have h2 : padLat u (ix3 q (⟨2 + i.val, by omega⟩ : Fin 2050) k) = below u ⟨q.val * 2048 + i.val, by omega⟩ k := by
    unfold below
    by_cases h : i.val = 2047
    · rw [padLat_out _ _ _ _ (.inr (by show 2 + i.val = 2049; omega))]
      exact (if_pos (by show place (q.val * 2048 + i.val) = len (q.val * 2048 + i.val) - 1; omega)).symm
    · rw [padLat_in _ _ _ _ (by show 0 < 2 + i.val; omega) (by show 2 + i.val < 2049; omega)]
      refine Eq.trans ?_ (if_neg (by show ¬ place (q.val * 2048 + i.val) = len (q.val * 2048 + i.val) - 1; omega)).symm
      exact congrArg u (congrArg (ix2 · k) (Fin.ext (by show q.val * 2048 + (2 + i.val - 1) = min (q.val * 2048 + i.val + 1) 9215; omega)))
  pointwise [convLat]
  rw [h0, h1, h2]; rfl

/-- The reference's gate of the latent sequences. -/
def gateLat (a : FVec Ideal S4x2048x11264 .f32) : FVec Ideal S4x2048x5632 .f32 :=
  mulf (extractStridedSlice S4x2048x5632 ![0, 0, 0] a slices_S4x2048x11264_S4x2048x5632_0_0_0)
    (mulf (extractStridedSlice S4x2048x5632 ![0, 0, 5632] a slices_S4x2048x11264_S4x2048x5632_0_0_5632)
      (Host.divf (broadcastInDim S4x2048x5632 ![] bcast_S_S4x2048x5632 (constant S_ .f32 0x3F800000#32))
        (addf (broadcastInDim S4x2048x5632 ![] bcast_S_S4x2048x5632 (constant S_ .f32 0x3F800000#32))
          (Host.exp (Host.negf (extractStridedSlice S4x2048x5632 ![0, 0, 5632] a slices_S4x2048x11264_S4x2048x5632_0_0_5632))))))

theorem gateLat_at (a : FVec Ideal S4x2048x11264 .f32) (q : Fin 4) (i : Fin 2048) (j : Fin 5632) : gateLat a (ix3 q i j)
    = a (ix3 q i (⟨j.val, by omega⟩ : Fin 11264)) * (a (ix3 q i (⟨5632 + j.val, by omega⟩ : Fin 11264))
      * Ideal.logistic (a (ix3 q i (⟨5632 + j.val, by omega⟩ : Fin 11264)))) := by
  pointwise [gateLat]
  rfl

/-- The reference's padded context sequences. -/
def padCtx (u : Mat 9216 11264 .f32) : FVec Ideal S4x258x11264 .f32 :=
  pad S4x258x11264 ![0, 1, 0] ![0, 1, 0] ![0, 0, 0]
    (shapeCast S4x256x11264 (extractStridedSlice S1024x11264 ![8192, 0] u slices_S9216x11264_S1024x11264_8192_0) shapeCasts_S1024x11264_S4x256x11264)
    (sitofp .f32 (constantI S_ 32 0#32)) pads_S4x256x11264_S4x258x11264_000_110_000 h_S_

theorem padCtx_in (u : Mat 9216 11264 .f32) (q : Fin 4) (i : Fin 258) (k : Fin 11264) (h : 0 < i.val) (h' : i.val < 257) :
    padCtx u (ix3 q i k) = u (ix2 ⟨8192 + (q.val * 256 + (i.val - 1)), by omega⟩ k) := by
  refine (pad_apply_of_inside _ _ _ _ _ _ _ _ (ix3 q (⟨i.val - 1, by omega⟩ : Fin 256) k) fun a => ?_).trans ?_
  · match a with
    | 0 => show q.val = 0 + q.val * (0 + 1); omega
    | 1 => show i.val = 1 + (i.val - 1) * (0 + 1); omega
    | 2 => show k.val = 0 + k.val * (0 + 1); omega
  · pointwise []

theorem padCtx_out (u : Mat 9216 11264 .f32) (q : Fin 4) (i : Fin 258) (k : Fin 11264) (h : i.val = 0 ∨ i.val = 257) :
    padCtx u (ix3 q i k) = 0 := by
  refine (pad_apply_of_not_inside _ _ _ _ _ _ _ _ 1 fun e => ?_).trans ?_
  · have e1 : 1 ≤ i.val := e.1
    have e2 : (i.val - 1) / (0 + 1) < 256 := e.2.2
    omega
  · pointwise []
    simp [FloatOps.sitofp]

/-- The reference's convolution of the context sequences. -/
def convCtx (u : Mat 9216 11264 .f32) (w : Mat 3 11264 .f32) (b : FVec Ideal ⟨1, ![11264]⟩ .f32) : FVec Ideal S4x256x11264 .f32 :=
  addf (addf (addf (addf (broadcastInDim S4x256x11264 ![] bcast_S_S4x256x11264 (constant S_ .f32 0x00000000#32))
      (mulf (extractStridedSlice S4x256x11264 ![0, 0, 0] (padCtx u) slices_S4x258x11264_S4x256x11264_0_0_0)
      (broadcastInDim S4x256x11264 ![0, 1, 2] bcast_S1x1x11264_S4x256x11264_0_1_2 (broadcastInDim S1x1x11264 ![2] bcast_S11264_S1x1x11264_2
        (shapeCast S11264 (extractStridedSlice S1x11264 ![0, 0] w slices_S3x11264_S1x11264_0_0) shapeCasts_S1x11264_S11264)))))
      (mulf (extractStridedSlice S4x256x11264 ![0, 1, 0] (padCtx u) slices_S4x258x11264_S4x256x11264_0_1_0)
      (broadcastInDim S4x256x11264 ![0, 1, 2] bcast_S1x1x11264_S4x256x11264_0_1_2 (broadcastInDim S1x1x11264 ![2] bcast_S11264_S1x1x11264_2
        (shapeCast S11264 (extractStridedSlice S1x11264 ![1, 0] w slices_S3x11264_S1x11264_1_0) shapeCasts_S1x11264_S11264)))))
      (mulf (extractStridedSlice S4x256x11264 ![0, 2, 0] (padCtx u) slices_S4x258x11264_S4x256x11264_0_2_0)
      (broadcastInDim S4x256x11264 ![0, 1, 2] bcast_S1x1x11264_S4x256x11264_0_1_2 (broadcastInDim S1x1x11264 ![2] bcast_S11264_S1x1x11264_2
        (shapeCast S11264 (extractStridedSlice S1x11264 ![2, 0] w slices_S3x11264_S1x11264_2_0) shapeCasts_S1x11264_S11264)))))
    (broadcastInDim S4x256x11264 ![0, 1, 2] bcast_S1x1x11264_S4x256x11264_0_1_2 (broadcastInDim S1x1x11264 ![2] bcast_S11264_S1x1x11264_2 b))

theorem convCtx_at (u : Mat 9216 11264 .f32) (w : Mat 3 11264 .f32) (b : FVec Ideal ⟨1, ![11264]⟩ .f32) (q : Fin 4) (i : Fin 256)
    (k : Fin 11264) : convCtx u w b (ix3 q i k) = conv u w b ⟨8192 + (q.val * 256 + i.val), by omega⟩ k := by
  have hl : len (8192 + (q.val * 256 + i.val)) = 256 := by unfold len; split <;> omega
  have hp : place (8192 + (q.val * 256 + i.val)) = i.val := by unfold place; rw [hl]; omega
  have h0 : padCtx u (ix3 q (⟨i.val, by omega⟩ : Fin 258) k) = above u ⟨8192 + (q.val * 256 + i.val), by omega⟩ k := by
    unfold above
    by_cases h : i.val = 0
    · rw [padCtx_out _ _ _ _ (.inl h)]; exact (if_pos (hp.trans h)).symm
    · rw [padCtx_in _ _ _ _ (by show 0 < i.val; omega) (by show i.val < 257; omega)]
      refine Eq.trans ?_ (if_neg (fun e => h (hp.symm.trans e))).symm
      exact congrArg u (congrArg (ix2 · k) (Fin.ext (by show 8192 + (q.val * 256 + (i.val - 1)) = 8192 + (q.val * 256 + i.val) - 1; omega)))
  have h1 : padCtx u (ix3 q (⟨1 + i.val, by omega⟩ : Fin 258) k) = u (ix2 ⟨8192 + (q.val * 256 + i.val), by omega⟩ k) := by
    rw [padCtx_in _ _ _ _ (by show 0 < 1 + i.val; omega) (by show 1 + i.val < 257; omega)]
    exact congrArg u (congrArg (ix2 · k) (Fin.ext (by show 8192 + (q.val * 256 + (1 + i.val - 1)) = 8192 + (q.val * 256 + i.val); omega)))
  have h2 : padCtx u (ix3 q (⟨2 + i.val, by omega⟩ : Fin 258) k) = below u ⟨8192 + (q.val * 256 + i.val), by omega⟩ k := by
    unfold below
    by_cases h : i.val = 255
    · rw [padCtx_out _ _ _ _ (.inr (by show 2 + i.val = 257; omega))]
      exact (if_pos (by show place (8192 + (q.val * 256 + i.val)) = len (8192 + (q.val * 256 + i.val)) - 1; omega)).symm
    · rw [padCtx_in _ _ _ _ (by show 0 < 2 + i.val; omega) (by show 2 + i.val < 257; omega)]
      refine Eq.trans ?_ (if_neg (by show ¬ place (8192 + (q.val * 256 + i.val)) = len (8192 + (q.val * 256 + i.val)) - 1; omega)).symm
      exact congrArg u (congrArg (ix2 · k) (Fin.ext (by show 8192 + (q.val * 256 + (2 + i.val - 1)) = min (8192 + (q.val * 256 + i.val) + 1) 9215; omega)))
  pointwise [convCtx]
  rw [h0, h1, h2]; rfl

/-- The reference's gate of the context sequences. -/
def gateCtx (a : FVec Ideal S4x256x11264 .f32) : FVec Ideal S4x256x5632 .f32 :=
  mulf (extractStridedSlice S4x256x5632 ![0, 0, 0] a slices_S4x256x11264_S4x256x5632_0_0_0)
    (mulf (extractStridedSlice S4x256x5632 ![0, 0, 5632] a slices_S4x256x11264_S4x256x5632_0_0_5632)
      (Host.divf (broadcastInDim S4x256x5632 ![] bcast_S_S4x256x5632 (constant S_ .f32 0x3F800000#32))
        (addf (broadcastInDim S4x256x5632 ![] bcast_S_S4x256x5632 (constant S_ .f32 0x3F800000#32))
          (Host.exp (Host.negf (extractStridedSlice S4x256x5632 ![0, 0, 5632] a slices_S4x256x11264_S4x256x5632_0_0_5632))))))

theorem gateCtx_at (a : FVec Ideal S4x256x11264 .f32) (q : Fin 4) (i : Fin 256) (j : Fin 5632) : gateCtx a (ix3 q i j)
    = a (ix3 q i (⟨j.val, by omega⟩ : Fin 11264)) * (a (ix3 q i (⟨5632 + j.val, by omega⟩ : Fin 11264))
      * Ideal.logistic (a (ix3 q i (⟨5632 + j.val, by omega⟩ : Fin 11264)))) := by
  pointwise [gateCtx]
  rfl

/-- The reference's result. -/
def whole (u : Mat 9216 11264 .f32) (w : Mat 3 11264 .f32) (b : FVec Ideal ⟨1, ![11264]⟩ .f32) : FVec Ideal S9216x5632 .bf16 :=
  truncf .bf16 (concatenate S9216x5632 0
    [⟨S8192x5632, shapeCast S8192x5632 (gateLat (convLat u w b)) shapeCasts_S4x2048x5632_S8192x5632⟩,
      ⟨S1024x5632, shapeCast S1024x5632 (gateCtx (convCtx u w b)) shapeCasts_S4x256x5632_S1024x5632⟩]
    concatenates_S8192x5632_S1024x5632_S9216x5632_d0) bitsLt_bf16_f32

theorem whole_eq (u : Mat 9216 11264 .f32) (w : Mat 3 11264 .f32) (b : FVec Ideal ⟨1, ![11264]⟩ .f32) : whole u w b = spec u w b := by
  funext i
  obtain ⟨r, j, rfl⟩ : ∃ (r : Fin 9216) (j : Fin 5632), i = ix2 r j := ⟨i 0, i 1, eq_ix2 i⟩
  unfold whole
  rw [truncf_apply]
  pointwise [gateLat_at, gateCtx_at, convLat_at, convCtx_at]
  split
  · simp only [lat_row]
    rfl
  · rename_i h
    simp only [ctx_row _ h]
    rfl

end Reference

theorem algebraic : Cert.algebraic_ConvGateIdeal_ConvGateRefIdeal := by
  pair_intro
  · run_from Cert.ConvGateIdeal.Gen.run_main m g
  · hlo_run
    refine Eq.trans ?_ ((whole_eq _ _ _).trans (final m c).symm)
    rw [(hagree c).2.2]
    rfl

end Cert.Calls.ConvGate

end
-- ==== Proof.FfnOut.lean ====
/-
  `ffn_out`: the activation times the output weights, gated and added to the stream.
-/
module

public import proofs.«01_k».proof.Defs
public import proofs.«01_k».proof.Proof.Gen.FfnOut.Frame
public import proofs.«01_k».proof.Proof.Gen.FfnOutIdeal.Frame
public import proofs.«01_k».proof.Proof.Gen.FfnOutRefIdeal
public import proofs.«01_k».proof.Proof.Stream
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.FfnOut

open Cert.Stream

section Kernel
open Cert.FfnOutIdeal Cert.FfnOutIdeal.Gen
variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![min (t.val / 16) 4, 0, 20 + t.val % 4]
    ∧ win0_4.index t = ![t.val / 4, t.val % 4] ∧ t.val < 72 :=
  (by decide +kernel : ∀ t : Fin grid0.N, _)

theorem point (c : Dev nD) (t : Fin cfg0.N) (y) : k0_pay1 (iblk m c 0 t) (iblk m c 1 t) (iblk m c 2 t) (iblk m c 3 t) y
    = addGated 10240 (by omega) le_rfl (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, addGated]
  blk_point [iblk, V, idx t, modRow]

theorem final (c : Dev nD) : (dats m 0 c).arrAt 4 (cfgs 0).N
    = addGated 10240 (by omega) le_rfl (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Kernel

theorem algebraic : Cert.algebraic_FfnOutIdeal_FfnOutRefIdeal := by
  pair_intro
  · run_from Cert.FfnOutIdeal.Gen.run_main m g
  · hlo_run
    refine Eq.trans ?_ (final m c).symm
    funext i
    obtain ⟨r, j, rfl⟩ : ∃ (r : Fin 9216) (j : Fin 2048), i = ix2 r j := ⟨i 0, i 1, eq_ix2 i⟩
    pointwise [addGated]
    simp only [(hagree c).2.2.2, modRow]
    split
    · rename_i h
      simp only [lat_row, lat_mod _ h, Fin.eta]
    · rename_i h
      simp only [ctx_row _ h, ctx_mod _ h, Fin.eta]
      rfl

end Cert.Calls.FfnOut

end
-- ==== Proof.MixerOutLast.lean ====
/-
  `mixer_out`: a mixer's heads times its output weights, gated and added to the stream, in the last layer: the latent rows only.
-/
module

public import proofs.«01_k».proof.Defs
public import proofs.«01_k».proof.Proof.Gen.MixerOutLast.Frame
public import proofs.«01_k».proof.Proof.Gen.MixerOutLastIdeal.Frame
public import proofs.«01_k».proof.Proof.Gen.MixerOutLastRefIdeal
public import proofs.«01_k».proof.Proof.Stream
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.MixerOutLast

open Cert.Stream

section Kernel
open Cert.MixerOutLastIdeal Cert.MixerOutLastIdeal.Gen
variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![min (t.val / 16) 4, 0, 8 + t.val % 4]
    ∧ win0_4.index t = ![t.val / 4, t.val % 4] ∧ t.val < 64 :=
  (by decide +kernel : ∀ t : Fin grid0.N, _)

theorem point (c : Dev nD) (t : Fin cfg0.N) (y) : k0_pay1 (iblk m c 0 t) (iblk m c 1 t) (iblk m c 2 t) (iblk m c 3 t) y
    = addGated 4096 (by omega) (by omega) (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, addGated]
  blk_point [iblk, V, idx t, modRow]

theorem final (c : Dev nD) : (dats m 0 c).arrAt 4 (cfgs 0).N
    = addGated 4096 (by omega) (by omega) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Kernel

theorem algebraic : Cert.algebraic_MixerOutLastIdeal_MixerOutLastRefIdeal := by
  pair_intro
  · run_from Cert.MixerOutLastIdeal.Gen.run_main m g
  · hlo_run
    refine Eq.trans ?_ (final m c).symm
    funext i
    obtain ⟨r, j, rfl⟩ : ∃ (r : Fin 8192) (j : Fin 2048), i = ix2 r j := ⟨i 0, i 1, eq_ix2 i⟩
    pointwise [addGated]
    simp only [(hagree c).2.2.2, modRow, lat_row, lat_mod _ r.isLt, Fin.eta]

end Cert.Calls.MixerOutLast

end
-- ==== Proof.FfnInLast.lean ====
/-
  `ffn_in` of the last layer: the stream, normalised and modulated, times the input weights of the feed-forward part:
  the latent rows only.
-/
module

public import proofs.«01_k».proof.Defs
public import proofs.«01_k».proof.Proof.Gen.FfnInLast.Frame
public import proofs.«01_k».proof.Proof.Gen.FfnInLastIdeal.Frame
public import proofs.«01_k».proof.Proof.Gen.FfnInLastIdeal.Value
public import proofs.«01_k».proof.Proof.Gen.FfnInLastRefIdeal
public import proofs.«01_k».proof.Proof.Stream
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.FfnInLast

open Cert.Stream

section Kernel
open Cert.FfnInLastIdeal Cert.FfnInLastIdeal.Gen
variable (m : (ℓ : Loc nD τ sig) → Buf (Elt Ideal) ℓ)

/-- Which block every window reads at grid point `t`: 22 blocks of columns for each of 16 blocks of rows. -/
theorem idx : ∀ t : Fin cfg0.N, win0_0.index t = ![t.val / 22, 0] ∧ win0_1.index t = ![0, 0]
    ∧ win0_2.index t = ![min (t.val / 88) 4, 0, 3] ∧ win0_3.index t = ![min (t.val / 88) 4, 0, 4]
    ∧ win0_4.index t = ![0, t.val % 22] ∧ win0_5.index t = ![t.val / 22, t.val % 22] ∧ t.val < 352 :=
  (by decide +kernel : ∀ t : Fin grid0.N, _)

/-- The gain is handed to the call as one row. -/
theorem gain (c : Dev nD) (i) : V m c main_v1 i = m ((c : Thread nD τ).loc main_arg1) (ix1 (i 1)) := by
  entry_read
  pointwise []

/-- The weights are handed to the call in a narrower type, which over the reals changes nothing. -/
theorem weights (c : Dev nD) (i) : V m c main_v0 i = m ((c : Thread nD τ).loc main_arg3) i := by
  entry_read
  pointwise []

/-- The row of the stream that row `a` of the block at grid point `t` stands for. -/
def row (t : Fin cfg0.N) (a : Fin 512) : Fin 8192 :=
  ⟨t.val / 22 * 512 + a.val, by have := (idx t).2.2.2.2.2.2; omega⟩

/-- The first block of columns stores the block's modulated rows. -/
theorem scratch_first (c : Dev nD) (t : Fin cfg0.N) (h : t.val % 22 = 0) (a : Fin 512) (k : Fin 2048) :
    (outsAt0 m c t.val t.isLt).2 (ix2 a k) = modulated 6144 8192 (by omega) (by omega) (m ((c : Thread nD τ).loc main_arg0))
      (m ((c : Thread nD τ).loc main_arg1)) (m ((c : Thread nD τ).loc main_arg2)) (row t a) k := by
  rw [outsAt0_A m c t h]; frame_out
  pointwise [k0_pay1, modulated]
  blk_point [iblk, gain m c, V_main_arg0, V_main_arg2, idx t, row, modRow]

/-- The other blocks of columns leave them. -/
theorem scratch_kept (c : Dev nD) (t : Fin cfg0.N) (h : ¬ t.val % 22 = 0) :
    (outsAt0 m c t.val t.isLt).2 = (outsAt0 m c (t.val - 1) (by omega)).2 := by
  rw [outsAt0_B m c t h]; rfl

/-- So every block of columns finds the modulated rows. -/
theorem scratch (c : Dev nD) (a : Fin 512) (k : Fin 2048) : ∀ (n : ℕ) (hn : n < cfg0.N), (outsAt0 m c n hn).2 (ix2 a k)
    = modulated 6144 8192 (by omega) (by omega) (m ((c : Thread nD τ).loc main_arg0)) (m ((c : Thread nD τ).loc main_arg1))
        (m ((c : Thread nD τ).loc main_arg2)) (row ⟨n, hn⟩ a) k :=
  kept 22 cfg0.N _ _ (fun n hn h => scratch_first m c ⟨n, hn⟩ h a k)
    (fun n hn h => congrFun (scratch_kept m c ⟨n + 1, hn⟩ h) (ix2 a k))
    fun n hn h => congrArg (fun r => modulated 6144 8192 (by omega) (by omega) _ _ _ r k) (Fin.ext (by simp only [row]; omega))

/-- Every block of the result is the product of the kept rows and the block's columns. -/
theorem out (c : Dev nD) (t : Fin cfg0.N) (y) : (outsAt0 m c t.val t.isLt).1 y
    = k0_pay2 (outsAt0 m c t.val t.isLt).2 (iblk m c 4 t) y := by
  by_cases h : t.val % 22 = 0
  · rw [outsAt0_A m c t h]; frame_out
  · rw [scratch_kept m c t h, outsAt0_B m c t h]; frame_out
    rw [read_unread_whole]

/-- A block of the result. -/
theorem point (c : Dev nD) (t : Fin cfg0.N) (y : S512x512.Idx) : (outsAt0 m c t.val t.isLt).1 y
    = product .f32 (modulated 6144 8192 (by omega) (by omega) (m ((c : Thread nD τ).loc main_arg0)) (m ((c : Thread nD τ).loc main_arg1))
        (m ((c : Thread nD τ).loc main_arg2))) (m ((c : Thread nD τ).loc main_arg3)) (((cfg0.win 5).blk t).view.emb y) := by
  obtain ⟨a, j, rfl⟩ : ∃ (a : Fin 512) (j : Fin 512), y = ix2 a j := ⟨y 0, y 1, eq_ix2 y⟩
  have e : ((cfg0.win 5).blk t).view.emb (ix2 a j) = ix2 (row t a) (⟨t.val % 22 * 512 + j.val, by omega⟩ : Fin 11264) := by
    blk_point [idx t, row]
  rw [out, e]
  pointwise [k0_pay2, product]
  refine Finset.sum_congr rfl fun k _ => ?_
  rw [scratch]
  blk_point [iblk, weights m c, idx t]

theorem final (c : Dev nD) : (dats m 0 c).arrAt 5 (cfgs 0).N
    = product .f32 (modulated 6144 8192 (by omega) (by omega) (m ((c : Thread nD τ).loc main_arg0)) (m ((c : Thread nD τ).loc main_arg1))
        (m ((c : Thread nD τ).loc main_arg2))) (m ((c : Thread nD τ).loc main_arg3)) := by
  refine (dats m 0 c).arrAt_eq_of_covers 5 _ (by decide +kernel) fun t _ y => ?_
  blk_simp
  rw [after0_5]
  exact point m c t y

end Kernel

theorem algebraic : Cert.algebraic_FfnInLastIdeal_FfnInLastRefIdeal := by
  pair_intro
  · run_from Cert.FfnInLastIdeal.Gen.run_main m g
  · hlo_run
    refine Eq.trans ?_ (final m c).symm
    funext i
    obtain ⟨r, j, rfl⟩ : ∃ (r : Fin 8192) (j : Fin 11264), i = ix2 r j := ⟨i 0, i 1, eq_ix2 i⟩
    pointwise [product, modulated]
    simp only [(hagree c).2.2.2, modRow, lat_row, lat_mod _ r.isLt, Fin.eta]

end Cert.Calls.FfnInLast

end
-- ==== Proof.FfnOutLast.lean ====
/-
  `ffn_out`: the activation times the output weights, gated and added to the stream, in the last layer: the latent rows only.
-/
module

public import proofs.«01_k».proof.Defs
public import proofs.«01_k».proof.Proof.Gen.FfnOutLast.Frame
public import proofs.«01_k».proof.Proof.Gen.FfnOutLastIdeal.Frame
public import proofs.«01_k».proof.Proof.Gen.FfnOutLastRefIdeal
public import proofs.«01_k».proof.Proof.Stream
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.FfnOutLast

open Cert.Stream

section Kernel
open Cert.FfnOutLastIdeal Cert.FfnOutLastIdeal.Gen
variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![min (t.val / 16) 4, 0, 20 + t.val % 4]
    ∧ win0_4.index t = ![t.val / 4, t.val % 4] ∧ t.val < 64 :=
  (by decide +kernel : ∀ t : Fin grid0.N, _)

theorem point (c : Dev nD) (t : Fin cfg0.N) (y) : k0_pay1 (iblk m c 0 t) (iblk m c 1 t) (iblk m c 2 t) (iblk m c 3 t) y
    = addGated 10240 (by omega) le_rfl (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay1, addGated]
  blk_point [iblk, V, idx t, modRow]

theorem final (c : Dev nD) : (dats m 0 c).arrAt 4 (cfgs 0).N
    = addGated 10240 (by omega) le_rfl (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Kernel

theorem algebraic : Cert.algebraic_FfnOutLastIdeal_FfnOutLastRefIdeal := by
  pair_intro
  · run_from Cert.FfnOutLastIdeal.Gen.run_main m g
  · hlo_run
    refine Eq.trans ?_ (final m c).symm
    funext i
    obtain ⟨r, j, rfl⟩ : ∃ (r : Fin 8192) (j : Fin 2048), i = ix2 r j := ⟨i 0, i 1, eq_ix2 i⟩
    pointwise [addGated]
    simp only [(hagree c).2.2.2, modRow, lat_row, lat_mod _ r.isLt, Fin.eta]

end Cert.Calls.FfnOutLast

end
-- ==== Proof.FinalNorm.lean ====
/-
  `final_norm`: the last RMSNorm of the latent stream.
-/
module

public import proofs.«01_k».proof.Defs
public import proofs.«01_k».proof.Proof.Gen.FinalNorm.Frame
public import proofs.«01_k».proof.Proof.Gen.FinalNormIdeal.Frame
public import proofs.«01_k».proof.Proof.Gen.FinalNormRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Calls.FinalNorm

/-- Row `r` of `x` over the square root of its mean square plus `eps`, times the gain `g`. -/
def spec (x : FVec Ideal FinalNormIdeal.S8192x2048 .f32) (g : FVec Ideal FinalNormIdeal.S2048 .f32) :
    FVec Ideal FinalNormIdeal.S8192x2048 .f32 := fun i =>
  x (ix2 (i 0) (i 1))
    * Ideal.rsqrt (Ideal.div (∑ k : Fin 2048, x (ix2 (i 0) k) * x (ix2 (i 0) k)) (Ideal.ofBits FTy.f32 0x45000000#32)
        + Ideal.ofBits FTy.f32 0x358637BD#32)
    * g (ix1 (i 1))

section Kernel
open Cert.FinalNormIdeal Cert.FinalNormIdeal.Gen
variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ t.val < 16 :=
  (by decide +kernel : ∀ t : Fin grid0.N, _)

/-- The gain is handed to the call as one row. -/
theorem gain (c : Dev nD) (i) : V m c main_v0 i = m ((c : Thread nD τ).loc main_arg1) (ix1 (i 1)) := by
  entry_read
  pointwise []

theorem point (c : Dev nD) (t : Fin cfg0.N) (y) : k0_pay1 (iblk m c 0 t) (iblk m c 1 t) y
    = spec (m ((c : Thread nD τ).loc main_arg0)) (m ((c : Thread nD τ).loc main_arg1)) (((cfg0.win 2).blk t).view.emb y) := by
  pointwise [k0_pay1, spec]
  blk_point [iblk, gain m c, V_main_arg0, idx t]

theorem final (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Kernel

theorem algebraic : Cert.algebraic_FinalNormIdeal_FinalNormRefIdeal := by
  pair_intro
  · run_from Cert.FinalNormIdeal.Gen.run_main m g
  · hlo_run
    refine Eq.trans ?_ (final m c).symm
    funext i
    obtain ⟨r, j, rfl⟩ : ∃ (r : Fin 8192) (j : Fin 2048), i = ix2 r j := ⟨i 0, i 1, eq_ix2 i⟩
    pointwise [spec]
    have e : r.val / 2048 * 2048 + r.val % 2048 = r.val := by omega
    simp only [e, Fin.eta]

end Cert.Calls.FinalNorm

end
-- ==== Proof.lean ====
/-
  The certificate: every call's kernel and reference run to the end, the idealized kernel is the kernel with exact
  numbers, and the idealized kernel and the idealized reference compute the same. The values are in the modules
  under Proof/, one per call; here they are put together.
-/
module

public import proofs.«01_k».proof.Defs
public import proofs.«01_k».proof.Proof.Gen.MlaAttn
public import proofs.«01_k».proof.Proof.Gen.MlaAttn.Skeleton
public import proofs.«01_k».proof.Proof.Gen.MlaAttn.Launch
public import proofs.«01_k».proof.Proof.Gen.MlaAttn.Points
public import proofs.«01_k».proof.Proof.Gen.MlaAttn.Frame
public import proofs.«01_k».proof.Proof.Gen.MlaAttnIdeal
public import proofs.«01_k».proof.Proof.Gen.MlaAttnIdeal.Skeleton
public import proofs.«01_k».proof.Proof.Gen.MlaAttnIdeal.Launch
public import proofs.«01_k».proof.Proof.Gen.MlaAttnIdeal.Points
public import proofs.«01_k».proof.Proof.Gen.MlaAttnIdeal.Frame
public import proofs.«01_k».proof.Proof.Gen.MlaAttnIdeal.Value
public import proofs.«01_k».proof.Proof.Gen.MlaAttnRefIdeal
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.NaQkv
public import proofs.«01_k».proof.Proof.Gen.NaQkv.Skeleton
public import proofs.«01_k».proof.Proof.Gen.NaQkv.Launch
public import proofs.«01_k».proof.Proof.Gen.NaQkv.Points
public import proofs.«01_k».proof.Proof.Gen.NaQkv.Frame
public import proofs.«01_k».proof.Proof.Gen.NaQkvIdeal
public import proofs.«01_k».proof.Proof.Gen.NaQkvIdeal.Skeleton
public import proofs.«01_k».proof.Proof.Gen.NaQkvIdeal.Launch
public import proofs.«01_k».proof.Proof.Gen.NaQkvIdeal.Points
public import proofs.«01_k».proof.Proof.Gen.NaQkvIdeal.Frame
public import proofs.«01_k».proof.Proof.Gen.NaQkvIdeal.Value
public import proofs.«01_k».proof.Proof.Gen.NaQkvRefIdeal
public import proofs.«01_k».proof.Proof.Gen.MlaIn
public import proofs.«01_k».proof.Proof.Gen.MlaIn.Skeleton
public import proofs.«01_k».proof.Proof.Gen.MlaIn.Launch
public import proofs.«01_k».proof.Proof.Gen.MlaIn.Points
public import proofs.«01_k».proof.Proof.Gen.MlaIn.Frame
public import proofs.«01_k».proof.Proof.Gen.MlaInIdeal
public import proofs.«01_k».proof.Proof.Gen.MlaInIdeal.Skeleton
public import proofs.«01_k».proof.Proof.Gen.MlaInIdeal.Launch
public import proofs.«01_k».proof.Proof.Gen.MlaInIdeal.Points
public import proofs.«01_k».proof.Proof.Gen.MlaInIdeal.Frame
public import proofs.«01_k».proof.Proof.Gen.MlaInIdeal.Value
public import proofs.«01_k».proof.Proof.Gen.MlaInRefIdeal
public import proofs.«01_k».proof.Proof.Gen.SguIn
public import proofs.«01_k».proof.Proof.Gen.SguIn.Skeleton
public import proofs.«01_k».proof.Proof.Gen.SguIn.Launch
public import proofs.«01_k».proof.Proof.Gen.SguIn.Points
public import proofs.«01_k».proof.Proof.Gen.SguIn.Frame
public import proofs.«01_k».proof.Proof.Gen.SguInIdeal
public import proofs.«01_k».proof.Proof.Gen.SguInIdeal.Skeleton
public import proofs.«01_k».proof.Proof.Gen.SguInIdeal.Launch
public import proofs.«01_k».proof.Proof.Gen.SguInIdeal.Points
public import proofs.«01_k».proof.Proof.Gen.SguInIdeal.Frame
public import proofs.«01_k».proof.Proof.Gen.SguInIdeal.Value
public import proofs.«01_k».proof.Proof.Gen.SguInRefIdeal
public import proofs.«01_k».proof.Proof.Gen.MixerOut
public import proofs.«01_k».proof.Proof.Gen.MixerOut.Skeleton
public import proofs.«01_k».proof.Proof.Gen.MixerOut.Launch
public import proofs.«01_k».proof.Proof.Gen.MixerOut.Points
public import proofs.«01_k».proof.Proof.Gen.MixerOut.Frame
public import proofs.«01_k».proof.Proof.Gen.MixerOutIdeal
public import proofs.«01_k».proof.Proof.Gen.MixerOutIdeal.Skeleton
public import proofs.«01_k».proof.Proof.Gen.MixerOutIdeal.Launch
public import proofs.«01_k».proof.Proof.Gen.MixerOutIdeal.Points
public import proofs.«01_k».proof.Proof.Gen.MixerOutIdeal.Frame
public import proofs.«01_k».proof.Proof.Gen.MixerOutRefIdeal
public import proofs.«01_k».proof.Proof.Gen.ConvGate
public import proofs.«01_k».proof.Proof.Gen.ConvGate.Skeleton
public import proofs.«01_k».proof.Proof.Gen.ConvGate.Launch
public import proofs.«01_k».proof.Proof.Gen.ConvGate.Points
public import proofs.«01_k».proof.Proof.Gen.ConvGate.Frame
public import proofs.«01_k».proof.Proof.Gen.ConvGateIdeal
public import proofs.«01_k».proof.Proof.Gen.ConvGateIdeal.Skeleton
public import proofs.«01_k».proof.Proof.Gen.ConvGateIdeal.Launch
public import proofs.«01_k».proof.Proof.Gen.ConvGateIdeal.Points
public import proofs.«01_k».proof.Proof.Gen.ConvGateIdeal.Frame
public import proofs.«01_k».proof.Proof.Gen.ConvGateRefIdeal
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutRefIdeal
public import proofs.«01_k».proof.Proof.Gen.MixerOutLast
public import proofs.«01_k».proof.Proof.Gen.MixerOutLast.Skeleton
public import proofs.«01_k».proof.Proof.Gen.MixerOutLast.Launch
public import proofs.«01_k».proof.Proof.Gen.MixerOutLast.Points
public import proofs.«01_k».proof.Proof.Gen.MixerOutLast.Frame
public import proofs.«01_k».proof.Proof.Gen.MixerOutLastIdeal
public import proofs.«01_k».proof.Proof.Gen.MixerOutLastIdeal.Skeleton
public import proofs.«01_k».proof.Proof.Gen.MixerOutLastIdeal.Launch
public import proofs.«01_k».proof.Proof.Gen.MixerOutLastIdeal.Points
public import proofs.«01_k».proof.Proof.Gen.MixerOutLastIdeal.Frame
public import proofs.«01_k».proof.Proof.Gen.MixerOutLastRefIdeal
public import proofs.«01_k».proof.Proof.Gen.FfnInLast
public import proofs.«01_k».proof.Proof.Gen.FfnInLast.Skeleton
public import proofs.«01_k».proof.Proof.Gen.FfnInLast.Launch
public import proofs.«01_k».proof.Proof.Gen.FfnInLast.Points
public import proofs.«01_k».proof.Proof.Gen.FfnInLast.Frame
public import proofs.«01_k».proof.Proof.Gen.FfnInLastIdeal
public import proofs.«01_k».proof.Proof.Gen.FfnInLastIdeal.Skeleton
public import proofs.«01_k».proof.Proof.Gen.FfnInLastIdeal.Launch
public import proofs.«01_k».proof.Proof.Gen.FfnInLastIdeal.Points
public import proofs.«01_k».proof.Proof.Gen.FfnInLastIdeal.Frame
public import proofs.«01_k».proof.Proof.Gen.FfnInLastIdeal.Value
public import proofs.«01_k».proof.Proof.Gen.FfnInLastRefIdeal
public import proofs.«01_k».proof.Proof.Gen.FfnOutLast
public import proofs.«01_k».proof.Proof.Gen.FfnOutLast.Skeleton
public import proofs.«01_k».proof.Proof.Gen.FfnOutLast.Launch
public import proofs.«01_k».proof.Proof.Gen.FfnOutLast.Points
public import proofs.«01_k».proof.Proof.Gen.FfnOutLast.Frame
public import proofs.«01_k».proof.Proof.Gen.FfnOutLastIdeal
public import proofs.«01_k».proof.Proof.Gen.FfnOutLastIdeal.Skeleton
public import proofs.«01_k».proof.Proof.Gen.FfnOutLastIdeal.Launch
public import proofs.«01_k».proof.Proof.Gen.FfnOutLastIdeal.Points
public import proofs.«01_k».proof.Proof.Gen.FfnOutLastIdeal.Frame
public import proofs.«01_k».proof.Proof.Gen.FfnOutLastRefIdeal
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormRefIdeal
public import proofs.«01_k».proof.Proof.Gen.Pre_finite
public import proofs.«01_k».proof.Proof.MlaAttn
public import proofs.«01_k».proof.Proof.FfnIn
public import proofs.«01_k».proof.Proof.NaQkv
public import proofs.«01_k».proof.Proof.MlaIn
public import proofs.«01_k».proof.Proof.SguIn
public import proofs.«01_k».proof.Proof.MixerOut
public import proofs.«01_k».proof.Proof.ConvGate
public import proofs.«01_k».proof.Proof.FfnOut
public import proofs.«01_k».proof.Proof.MixerOutLast
public import proofs.«01_k».proof.Proof.FfnInLast
public import proofs.«01_k».proof.Proof.FfnOutLast
public import proofs.«01_k».proof.Proof.FinalNorm
public import Idealize.ShloMosaic.Lib.Quiescent
public import Idealize.ShloMosaic.Adequacy
public import Idealize.ShloMosaic.Init

@[expose] public section

noncomputable section

namespace Cert.Proof

open Idealize.ShloMosaic Idealize.SL.Sem

theorem ref_MlaAttn : Cert.quiescent_MlaAttnRefIdeal := by
  intro m g _
  hlo_run
  · simp
  · exact sem_eq_zero_of_no_sems rfl _

theorem ref_pre_MlaAttn : Cert.quiescent_MlaAttnRefIdeal_pre_finite := fun m g _ => ref_MlaAttn m g trivial

theorem ref_FfnIn : Cert.quiescent_FfnInRefIdeal := by
  intro m g _
  hlo_run
  · simp
  · exact sem_eq_zero_of_no_sems rfl _

theorem ref_NaQkv : Cert.quiescent_NaQkvRefIdeal := by
  intro m g _
  hlo_run
  · simp
  · exact sem_eq_zero_of_no_sems rfl _

theorem ref_MlaIn : Cert.quiescent_MlaInRefIdeal := by
  intro m g _
  hlo_run
  · simp
  · exact sem_eq_zero_of_no_sems rfl _

theorem ref_SguIn : Cert.quiescent_SguInRefIdeal := by
  intro m g _
  hlo_run
  · simp
  · exact sem_eq_zero_of_no_sems rfl _

theorem ref_MixerOut : Cert.quiescent_MixerOutRefIdeal := by
  intro m g _
  hlo_run
  · simp
  · exact sem_eq_zero_of_no_sems rfl _

theorem ref_ConvGate : Cert.quiescent_ConvGateRefIdeal := by
  intro m g _
  hlo_run
  · simp
  · exact sem_eq_zero_of_no_sems rfl _

theorem ref_FfnOut : Cert.quiescent_FfnOutRefIdeal := by
  intro m g _
  hlo_run
  · simp
  · exact sem_eq_zero_of_no_sems rfl _

theorem ref_MixerOutLast : Cert.quiescent_MixerOutLastRefIdeal := by
  intro m g _
  hlo_run
  · simp
  · exact sem_eq_zero_of_no_sems rfl _

theorem ref_FfnInLast : Cert.quiescent_FfnInLastRefIdeal := by
  intro m g _
  hlo_run
  · simp
  · exact sem_eq_zero_of_no_sems rfl _

theorem ref_FfnOutLast : Cert.quiescent_FfnOutLastRefIdeal := by
  intro m g _
  hlo_run
  · simp
  · exact sem_eq_zero_of_no_sems rfl _

theorem ref_FinalNorm : Cert.quiescent_FinalNormRefIdeal := by
  intro m g _
  hlo_run
  · simp
  · exact sem_eq_zero_of_no_sems rfl _

/-- THE CERTIFICATE. -/
theorem claim : Cert.Claim :=
  ⟨Cert.MlaAttn.Gen.facts,
   Cert.MlaAttnIdeal.Gen.facts,
   Cert.MlaAttnRefIdeal.Gen.facts,
   Cert.FfnIn.Gen.facts,
   Cert.FfnInIdeal.Gen.facts,
   Cert.FfnInRefIdeal.Gen.facts,
   Cert.NaQkv.Gen.facts,
   Cert.NaQkvIdeal.Gen.facts,
   Cert.NaQkvRefIdeal.Gen.facts,
   Cert.MlaIn.Gen.facts,
   Cert.MlaInIdeal.Gen.facts,
   Cert.MlaInRefIdeal.Gen.facts,
   Cert.SguIn.Gen.facts,
   Cert.SguInIdeal.Gen.facts,
   Cert.SguInRefIdeal.Gen.facts,
   Cert.MixerOut.Gen.facts,
   Cert.MixerOutIdeal.Gen.facts,
   Cert.MixerOutRefIdeal.Gen.facts,
   Cert.ConvGate.Gen.facts,
   Cert.ConvGateIdeal.Gen.facts,
   Cert.ConvGateRefIdeal.Gen.facts,
   Cert.FfnOut.Gen.facts,
   Cert.FfnOutIdeal.Gen.facts,
   Cert.FfnOutRefIdeal.Gen.facts,
   Cert.MixerOutLast.Gen.facts,
   Cert.MixerOutLastIdeal.Gen.facts,
   Cert.MixerOutLastRefIdeal.Gen.facts,
   Cert.FfnInLast.Gen.facts,
   Cert.FfnInLastIdeal.Gen.facts,
   Cert.FfnInLastRefIdeal.Gen.facts,
   Cert.FfnOutLast.Gen.facts,
   Cert.FfnOutLastIdeal.Gen.facts,
   Cert.FfnOutLastRefIdeal.Gen.facts,
   Cert.FinalNorm.Gen.facts,
   Cert.FinalNormIdeal.Gen.facts,
   Cert.FinalNormRefIdeal.Gen.facts,
   Cert.Pre_finite.Gen.facts,
   fun m g _ => Cert.MlaAttn.Gen.frame m g,
   fun m g _ => Cert.MlaAttnIdeal.Gen.frame m g,
   fun m g _ => Cert.MlaAttnIdeal.Gen.frame m g,
   ref_MlaAttn,
   ref_pre_MlaAttn,
   fun m g _ => Cert.FfnIn.Gen.frame m g,
   fun m g _ => Cert.FfnInIdeal.Gen.frame m g,
   ref_FfnIn,
   fun m g _ => Cert.NaQkv.Gen.frame m g,
   fun m g _ => Cert.NaQkvIdeal.Gen.frame m g,
   ref_NaQkv,
   fun m g _ => Cert.MlaIn.Gen.frame m g,
   fun m g _ => Cert.MlaInIdeal.Gen.frame m g,
   ref_MlaIn,
   fun m g _ => Cert.SguIn.Gen.frame m g,
   fun m g _ => Cert.SguInIdeal.Gen.frame m g,
   ref_SguIn,
   fun m g _ => Cert.MixerOut.Gen.frame m g,
   fun m g _ => Cert.MixerOutIdeal.Gen.frame m g,
   ref_MixerOut,
   fun m g _ => Cert.ConvGate.Gen.frame m g,
   fun m g _ => Cert.ConvGateIdeal.Gen.frame m g,
   ref_ConvGate,
   fun m g _ => Cert.FfnOut.Gen.frame m g,
   fun m g _ => Cert.FfnOutIdeal.Gen.frame m g,
   ref_FfnOut,
   fun m g _ => Cert.MixerOutLast.Gen.frame m g,
   fun m g _ => Cert.MixerOutLastIdeal.Gen.frame m g,
   ref_MixerOutLast,
   fun m g _ => Cert.FfnInLast.Gen.frame m g,
   fun m g _ => Cert.FfnInLastIdeal.Gen.frame m g,
   ref_FfnInLast,
   fun m g _ => Cert.FfnOutLast.Gen.frame m g,
   fun m g _ => Cert.FfnOutLastIdeal.Gen.frame m g,
   ref_FfnOutLast,
   fun m g _ => Cert.FinalNorm.Gen.frame m g,
   fun m g _ => Cert.FinalNormIdeal.Gen.frame m g,
   ref_FinalNorm,
   trivial,
   Calls.MlaAttn.algebraic,
   trivial,
   Calls.FfnIn.algebraic,
   trivial,
   Calls.NaQkv.algebraic,
   trivial,
   Calls.MlaIn.algebraic,
   trivial,
   Calls.SguIn.algebraic,
   trivial,
   Calls.MixerOut.algebraic,
   trivial,
   Calls.ConvGate.algebraic,
   trivial,
   Calls.FfnOut.algebraic,
   trivial,
   Calls.MixerOutLast.algebraic,
   trivial,
   Calls.FfnInLast.algebraic,
   trivial,
   Calls.FfnOutLast.algebraic,
   trivial,
   Calls.FinalNorm.algebraic⟩

end Cert.Proof

end
